-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_each_row_has_a_finite_greatest_logit [hPre_each_row_has_a_finite_greatest_logit : Cert.Pre_each_row_has_a_finite_greatest_logit.Facts] (m : (ℓ : Loc Cert.KernelIdeal.nD Cert.KernelIdeal.τ Cert.KernelIdeal.sig) → Buf (Elt Ideal) ℓ) : Prop :=
  ∀ c : Dev Cert.KernelIdeal.nD,
    (Cert.Pre_each_row_has_a_finite_greatest_logit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_each_row_has_a_finite_greatest_logit [hPre_each_row_has_a_finite_greatest_logit : Cert.Pre_each_row_has_a_finite_greatest_logit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_each_row_has_a_finite_greatest_logit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_each_row_has_a_finite_greatest_logit [hKernelIdeal : Cert.KernelIdeal.Facts] [hPre_each_row_has_a_finite_greatest_logit : Cert.Pre_each_row_has_a_finite_greatest_logit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_each_row_has_a_finite_greatest_logit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_each_row_has_a_finite_greatest_logit [hReferenceIdeal : Cert.ReferenceIdeal.Facts] [hPre_each_row_has_a_finite_greatest_logit : Cert.Pre_each_row_has_a_finite_greatest_logit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_each_row_has_a_finite_greatest_logit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_each_row_has_a_finite_greatest_logit [hKernelIdeal : Cert.KernelIdeal.Facts] [hReferenceIdeal : Cert.ReferenceIdeal.Facts] [hPre_each_row_has_a_finite_greatest_logit : Cert.Pre_each_row_has_a_finite_greatest_logit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_each_row_has_a_finite_greatest_logit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_each_row_has_a_finite_greatest_logit : Cert.Pre_each_row_has_a_finite_greatest_logit.Facts),
    quiescent_Kernel (hKernel := hKernel)
    ∧ quiescent_KernelIdeal (hKernelIdeal := hKernelIdeal)
    ∧ quiescent_KernelIdeal_pre_each_row_has_a_finite_greatest_logit (hKernelIdeal := hKernelIdeal) (hPre_each_row_has_a_finite_greatest_logit := hPre_each_row_has_a_finite_greatest_logit)
    ∧ quiescent_ReferenceIdeal (hReferenceIdeal := hReferenceIdeal)
    ∧ quiescent_ReferenceIdeal_pre_each_row_has_a_finite_greatest_logit (hReferenceIdeal := hReferenceIdeal) (hPre_each_row_has_a_finite_greatest_logit := hPre_each_row_has_a_finite_greatest_logit)
    ∧ preserves_Kernel_KernelIdeal
    ∧ algebraic_KernelIdeal_ReferenceIdeal_pre_each_row_has_a_finite_greatest_logit (hKernelIdeal := hKernelIdeal) (hReferenceIdeal := hReferenceIdeal) (hPre_each_row_has_a_finite_greatest_logit := hPre_each_row_has_a_finite_greatest_logit)
-- ==== Pre_each_row_has_a_finite_greatest_logit.lean ====
abbrev S128x100000 : Shape := ⟨2, ![128, 100000]⟩
abbrev S100000 : Shape := ⟨1, ![100000]⟩
abbrev S_ : Shape := ⟨0, ![]⟩
abbrev S128 : Shape := ⟨1, ![128]⟩

class Facts : Prop where
  reducesTo_S128x100000_S128_d1 : S128x100000.ReducesTo [1] S128
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S128x100000 .f32) (main_arg1 : IVec S100000 32) : IVec S_ 1 :=
  let main_cst : FVec F S_ .f32 := constant S_ .f32 0xFF800000#32
  let main_v0 : FVec F S128 .f32 := (fun x v => Host.reduce FloatOps.maximumf x v reducesTo_S128x100000_S128_d1 h_S_) main_arg0 main_cst
  let main_cst_0 : FVec F S_ .f32 := constant S_ .f32 0x7F800000#32
  let main_v1 : FVec F S128 .f32 := broadcastInDim S128 ![] bcast_S_S128 main_cst_0
  let main_v2 : IVec S128 1 := cmpf .olt main_v0 main_v1
  let main_cst_1 : FVec F S_ .f32 := constant S_ .f32 0xFF800000#32
  let main_v3 : FVec F S128 .f32 := broadcastInDim S128 ![] bcast_S_S128 main_cst_1
  let main_v4 : IVec S128 1 := cmpf .ogt main_v0 main_v3
  let main_v5 : IVec S128 1 := andi main_v2 main_v4
  let main_c : IVec S_ 1 := constantI S_ 1 1#1
  let main_v6 : IVec S_ 1 := (fun x v => Host.reduce IntOp.andi x v reducesTo_S128_S_d0 h_S_) main_v5 main_c
  main_v6
-- ==== Kernel.lean ====
abbrev S128x100000 : Shape := ⟨2, ![128, 100000]⟩
abbrev S100000 : Shape := ⟨1, ![100000]⟩
abbrev S1x100000 : Shape := ⟨2, ![1, 100000]⟩
abbrev S128x1 : Shape := ⟨2, ![128, 1]⟩
abbrev S8x100000 : Shape := ⟨2, ![8, 100000]⟩
abbrev S8x1 : Shape := ⟨2, ![8, 1]⟩
abbrev S8x2048 : Shape := ⟨2, ![8, 2048]⟩
abbrev S1x2048 : Shape := ⟨2, ![1, 2048]⟩
abbrev S8 : Shape := ⟨1, ![8]⟩
abbrev S8x1664 : Shape := ⟨2, ![8, 1664]⟩
abbrev S1x1664 : Shape := ⟨2, ![1, 1664]⟩
abbrev S8x32 : Shape := ⟨2, ![8, 32]⟩
abbrev S1x32 : Shape := ⟨2, ![1, 32]⟩

abbrev nBuf : Space → Nat
  | .hbm => 5
  | .vmem => 7
  | .smem => 0
  | _ => 0

abbrev bufTy : (tb : Table) → Fin (tcTables nBuf tb) → BufTy
  | .hbm, ⟨0, _⟩ => ⟨S128x100000, .f32⟩
  | .hbm, ⟨1, _⟩ => ⟨S100000, .i32⟩
  | .hbm, ⟨2, _⟩ => ⟨S1x100000, .i32⟩
  | .hbm, ⟨3, _⟩ => ⟨S128x1, .f32⟩
  | .hbm, ⟨4, _⟩ => ⟨S128x1, .i32⟩
  | .local _ .vmem, ⟨0, _⟩ => ⟨S8x100000, .f32⟩
  | .local _ .vmem, ⟨1, _⟩ => ⟨S8x100000, .f32⟩
  | .local _ .vmem, ⟨2, _⟩ => ⟨S1x100000, .i32⟩
  | .local _ .vmem, ⟨3, _⟩ => ⟨S8x1, .f32⟩
  | .local _ .vmem, ⟨4, _⟩ => ⟨S8x1, .f32⟩
  | .local _ .vmem, ⟨5, _⟩ => ⟨S8x1, .i32⟩
  | .local _ .vmem, ⟨6, _⟩ => ⟨S8x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c48_i32 : BitVec 32 := 48#32
  let v4 : BitVec 32 := Scalar.addi c0_i32_1 c48_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg5 : BitVec 32 := Scf.iv c0_i32_1 c1_i32 k0_t1
  let c2048_i32 : BitVec 32 := 2048#32
  let v651 : BitVec 32 := Scalar.muli arg5 c2048_i32
  v651
def k0_off1 (k0_t1 : Fin k0_t1_loop.trips) : Fin 2 → Nat :=
  let c0_183 : Index := 0#32
  let c0_i32_1 : BitVec 32 := 0#32
  let c1_i32 : BitVec 32 := 1#32
  let arg5 : BitVec 32 := Scf.iv c0_i32_1 c1_i32 k0_t1
  let c2048_i32 : BitVec 32 := 2048#32
  let v651 : BitVec 32 := Scalar.muli arg5 c2048_i32
  let v652 : BitVec 32 := v651
  let v653 : Index := Scalar.indexCast v652
  ![0, v653.toNat]
def k0_off2 (k0_t1 : Fin k0_t1_loop.trips) : Fin 2 → Nat :=
  let c0_184 : Index := 0#32
  let c0_i32_1 : BitVec 32 := 0#32
  let c1_i32 : BitVec 32 := 1#32
  let arg5 : BitVec 32 := Scf.iv c0_i32_1 c1_i32 k0_t1
  let c2048_i32 : BitVec 32 := 2048#32
  let v651 : BitVec 32 := Scalar.muli arg5 c2048_i32
  let v652 : BitVec 32 := v651
  let v655 : Index := Scalar.indexCast v652
  ![0, v655.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x100000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x100000 : Shape := ⟨2, ![128, 100000]⟩
abbrev S100000 : Shape := ⟨1, ![100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 337
  | .vmem => 0
  | .smem => 0
  | _ => 0

abbrev hbmTy0_0 (i : Nat) : BufTy := match i % 128 with
  | 0 => ⟨S128x100000, .f32⟩
  | 1 => ⟨S100000, .i32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S128x100000, .i64⟩
  | 23 => ⟨S128x100000, .i64⟩
  | 24 => ⟨S_, .i64⟩
  | 25 => ⟨S128x100000, .i64⟩
  | 26 => ⟨S128x100000, .i64⟩
  | 27 => ⟨S_, .i64⟩
  | 28 => ⟨S128x100000, .i64⟩
  | 29 => ⟨S128x100000, .i64⟩
  | 30 => ⟨S128x100000, .i64⟩
  | 31 => ⟨S_, .i64⟩
  | 32 => ⟨S128x100000, .i64⟩
  | 33 => ⟨S128x100000, .i64⟩
  | 34 => ⟨S128x100000, .i32⟩
  | 35 => ⟨S128x100000, .i32⟩
  | 36 => ⟨S_, .i32⟩
  | 37 => ⟨S_, .i32⟩
  | 38 => ⟨S_, .i32⟩
  | 39 => ⟨S128x100000, .i32⟩
  | 40 => ⟨S128x100000, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_1 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S_, .i32⟩
  | 15 => ⟨S128x100000, .i32⟩
  | 16 => ⟨S128x100000, .i32⟩
  | 17 => ⟨S128x100000, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S_, .i32⟩
  | 24 => ⟨S128x100000, .i32⟩
  | 25 => ⟨S128x100000, .i32⟩
  | 26 => ⟨S128x100000, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S_, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S128x100000, .i32⟩
  | 41 => ⟨S_, .i32⟩
  | 42 => ⟨S128x100000, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S_, .i32⟩
  | 49 => ⟨S128x100000, .i32⟩
  | 50 => ⟨S128x100000, .i32⟩
  | 51 => ⟨S128x100000, .i32⟩
  | 52 => ⟨S128x100000, .i32⟩
  | 53 => ⟨S128x100000, .i32⟩
  | 54 => ⟨S_, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S128x100000, .i32⟩
  | 61 => ⟨S128x100000, .i32⟩
  | 62 => ⟨S128x100000, .i32⟩
  | 63 => ⟨S_, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S128x100000, .i32⟩
  | 70 => ⟨S128x100000, .i32⟩
  | 71 => ⟨S128x100000, .i32⟩
  | 72 => ⟨S_, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S128x100000, .i32⟩
  | 88 => ⟨S_, .i32⟩
  | 89 => ⟨S128x100000, .i32⟩
  | 90 => ⟨S128x100000, .i32⟩
  | 91 => ⟨S_, .i32⟩
  | 92 => ⟨S128x100000, .i32⟩
  | 93 => ⟨S128x100000, .i32⟩
  | 94 => ⟨S128x100000, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S_, .i32⟩
  | 101 => ⟨S128x100000, .i32⟩
  | 102 => ⟨S128x100000, .i32⟩
  | 103 => ⟨S128x100000, .i32⟩
  | 104 => ⟨S128x100000, .i32⟩
  | 105 => ⟨S128x100000, .i32⟩
  | 106 => ⟨S_, .i32⟩
  | 107 => ⟨S128x100000, .i32⟩
  | 108 => ⟨S128x100000, .i32⟩
  | 109 => ⟨S_, .i32⟩
  | 110 => ⟨S128x100000, .i32⟩
  | 111 => ⟨S128x100000, .i32⟩
  | 112 => ⟨S128x100000, .i32⟩
  | 113 => ⟨S128x100000, .i32⟩
  | 114 => ⟨S128x100000, .i32⟩
  | 115 => ⟨S_, .i32⟩
  | 116 => ⟨S128x100000, .i32⟩
  | 117 => ⟨S128x100000, .i32⟩
  | 118 => ⟨S_, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S128x100000, .i32⟩
  | 127 => ⟨S_, .i32⟩
  | _ => ⟨S128x100000, .f32⟩

abbrev hbmTy0_2 (i : Nat) : BufTy := match i % 128 with
  | 0 => ⟨S128x100000, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S_, .i32⟩
  | 7 => ⟨S128x100000, .i32⟩
  | 8 => ⟨S128x100000, .i32⟩
  | 9 => ⟨S128x100000, .f32⟩
  | 10 => ⟨S_, .f32⟩
  | 11 => ⟨S128x100000, .f32⟩
  | 12 => ⟨S128x100000, .f32⟩
  | 13 => ⟨S1x1, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S_, .f32⟩
  | 21 => ⟨S128x100000, .f32⟩
  | 22 => ⟨S128x100000, .f32⟩
  | 23 => ⟨S128x100000, .f32⟩
  | 24 => ⟨S128x100000, .f32⟩
  | 25 => ⟨S128x100000, .f32⟩
  | 26 => ⟨S128x100000, .f32⟩
  | 27 => ⟨S128x100000, .f32⟩
  | 28 => ⟨S128x100000, .i32⟩
  | 29 => ⟨S_, .f32⟩
  | 30 => ⟨S_, .i32⟩
  | 31 => ⟨S128, .f32⟩
  | 32 => ⟨S128, .i32⟩
  | 33 => ⟨S128x1, .i32⟩
  | 34 => ⟨S1x100000, .i32⟩
  | 35 => ⟨S128x100000, .i32⟩
  | 36 => ⟨S128x100000, .i32⟩
  | 37 => ⟨S128x100000, .i1⟩
  | 38 => ⟨S128x100000, .f32⟩
  | 39 => ⟨S_, .f32⟩
  | 40 => ⟨S128, .f32⟩
  | 41 => ⟨S_, .f32⟩
  | 42 => ⟨S128, .f32⟩
  | 43 => ⟨S128, .f32⟩
  | 44 => ⟨S128x1, .f32⟩
  | 45 => ⟨S128x100000, .f32⟩
  | 46 => ⟨S128x100000, .f32⟩
  | 47 => ⟨S128x100000, .f32⟩
  | 48 => ⟨S_, .f32⟩
  | 49 => ⟨S128, .f32⟩
  | 50 => ⟨S128x1, .f32⟩
  | 51 => ⟨S128x1, .f32⟩
  | 52 => ⟨S128x100000, .f32⟩
  | 53 => ⟨S128x100000, .f32⟩
  | 54 => ⟨S128x100000, .f32⟩
  | 55 => ⟨S_, .f32⟩
  | 56 => ⟨S128, .f32⟩
  | 57 => ⟨S_, .i32⟩
  | 58 => ⟨S128, .i32⟩
  | 59 => ⟨S128, .i1⟩
  | 60 => ⟨S_, .i32⟩
  | 61 => ⟨S128, .i32⟩
  | 62 => ⟨S128, .i32⟩
  | 63 => ⟨S128, .i32⟩
  | 64 => ⟨S128x1, .i32⟩
  | 65 => ⟨S1, .i32⟩
  | 66 => ⟨S_, .i32⟩
  | 67 => ⟨S128x1, .i32⟩
  | 68 => ⟨S128x1, .i1⟩
  | 69 => ⟨S1x1, .i32⟩
  | 70 => ⟨S128x1, .i32⟩
  | 71 => ⟨S128x1, .i1⟩
  | 72 => ⟨S128x1, .i1⟩
  | 73 => ⟨S_, .i1⟩
  | 74 => ⟨S128, .i1⟩
  | 75 => ⟨S128, .i32⟩
  | 76 => ⟨S_, .i32⟩
  | 77 => ⟨S128, .i32⟩
  | 78 => ⟨S128, .i32⟩
  | 79 => ⟨S128x1, .f32⟩
  | 80 => ⟨S128x1, .i32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_c : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_c_1 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_v18 : Ref sig .tc := ⟨.hbm, 35, rfl⟩
abbrev main_call0_call0_v0 : Ref sig .tc := ⟨.hbm, 36, rfl⟩
abbrev main_call0_call0_c : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_c_0 : Ref sig .tc := ⟨.hbm, 44, rfl⟩
abbrev main_call0_call0_v7 : Ref sig .tc := ⟨.hbm, 45, rfl⟩
abbrev main_call0_call0_v8 : Ref sig .tc := ⟨.hbm, 46, rfl⟩
abbrev main_call0_call0_c_1 : Ref sig .tc := ⟨.hbm, 47, rfl⟩
abbrev main_call0_call0_v9 : Ref sig .tc := ⟨.hbm, 48, rfl⟩
abbrev main_call0_call0_v10 : Ref sig .tc := ⟨.hbm, 49, rfl⟩
abbrev main_call0_call0_v11 : Ref sig .tc := ⟨.hbm, 50, rfl⟩
abbrev main_call0_call0_v12 : Ref sig .tc := ⟨.hbm, 51, rfl⟩
abbrev main_call0_call0_v13 : Ref sig .tc := ⟨.hbm, 52, rfl⟩
abbrev main_call0_call0_c_2 : Ref sig .tc := ⟨.hbm, 53, rfl⟩
abbrev main_call0_call0_v14 : Ref sig .tc := ⟨.hbm, 54, rfl⟩
abbrev main_call0_call0_v15 : Ref sig .tc := ⟨.hbm, 55, rfl⟩
abbrev main_call0_call0_c_3 : Ref sig .tc := ⟨.hbm, 56, rfl⟩
abbrev main_call0_call0_v16 : Ref sig .tc := ⟨.hbm, 57, rfl⟩
abbrev main_call0_call0_v17 : Ref sig .tc := ⟨.hbm, 58, rfl⟩
abbrev main_call0_call0_v18 : Ref sig .tc := ⟨.hbm, 59, rfl⟩
abbrev main_call0_call0_v19 : Ref sig .tc := ⟨.hbm, 60, rfl⟩
abbrev main_call0_call0_v20 : Ref sig .tc := ⟨.hbm, 61, rfl⟩
abbrev main_call0_call0_c_4 : Ref sig .tc := ⟨.hbm, 62, rfl⟩
abbrev main_call0_call0_v21 : Ref sig .tc := ⟨.hbm, 63, rfl⟩
abbrev main_call0_call0_v22 : Ref sig .tc := ⟨.hbm, 64, rfl⟩
abbrev main_call0_call0_c_5 : Ref sig .tc := ⟨.hbm, 65, rfl⟩
abbrev main_call0_call0_v23 : Ref sig .tc := ⟨.hbm, 66, rfl⟩
abbrev main_call0_call0_v24 : Ref sig .tc := ⟨.hbm, 67, rfl⟩
abbrev main_call0_call0_v25 : Ref sig .tc := ⟨.hbm, 68, rfl⟩
abbrev main_call0_call0_v26 : Ref sig .tc := ⟨.hbm, 69, rfl⟩
abbrev main_call0_call0_v27 : Ref sig .tc := ⟨.hbm, 70, rfl⟩
abbrev main_call0_call0_c_6 : Ref sig .tc := ⟨.hbm, 71, rfl⟩
abbrev main_call0_call0_v28 : Ref sig .tc := ⟨.hbm, 72, rfl⟩
abbrev main_call0_call0_v29 : Ref sig .tc := ⟨.hbm, 73, rfl⟩
abbrev main_call0_call0_c_7 : Ref sig .tc := ⟨.hbm, 74, rfl⟩
abbrev main_call0_call0_v30 : Ref sig .tc := ⟨.hbm, 75, rfl⟩
abbrev main_call0_call0_v31 : Ref sig .tc := ⟨.hbm, 76, rfl⟩
abbrev main_call0_call0_v32 : Ref sig .tc := ⟨.hbm, 77, rfl⟩
abbrev main_call0_call0_v33 : Ref sig .tc := ⟨.hbm, 78, rfl⟩
abbrev main_call0_call0_v34 : Ref sig .tc := ⟨.hbm, 79, rfl⟩
abbrev main_call0_call0_v35 : Ref sig .tc := ⟨.hbm, 80, rfl⟩
abbrev main_call0_call0_v36 : Ref sig .tc := ⟨.hbm, 81, rfl⟩
abbrev main_call0_call0_v37 : Ref sig .tc := ⟨.hbm, 82, rfl⟩
abbrev main_call0_call0_c_8 : Ref sig .tc := ⟨.hbm, 83, rfl⟩
abbrev main_call0_call0_v38 : Ref sig .tc := ⟨.hbm, 84, rfl⟩
abbrev main_call0_call0_v39 : Ref sig .tc := ⟨.hbm, 85, rfl⟩
abbrev main_call0_call0_v40 : Ref sig .tc := ⟨.hbm, 86, rfl⟩
abbrev main_call0_call0_c_9 : Ref sig .tc := ⟨.hbm, 87, rfl⟩
abbrev main_call0_call0_v41 : Ref sig .tc := ⟨.hbm, 88, rfl⟩
abbrev main_call0_call0_v42 : Ref sig .tc := ⟨.hbm, 89, rfl⟩
abbrev main_call0_call0_c_10 : Ref sig .tc := ⟨.hbm, 90, rfl⟩
abbrev main_call0_call0_v43 : Ref sig .tc := ⟨.hbm, 91, rfl⟩
abbrev main_call0_call0_v44 : Ref sig .tc := ⟨.hbm, 92, rfl⟩
abbrev main_call0_call0_v45 : Ref sig .tc := ⟨.hbm, 93, rfl⟩
abbrev main_call0_call0_v46 : Ref sig .tc := ⟨.hbm, 94, rfl⟩
abbrev main_call0_call0_v47 : Ref sig .tc := ⟨.hbm, 95, rfl⟩
abbrev main_call0_call0_c_11 : Ref sig .tc := ⟨.hbm, 96, rfl⟩
abbrev main_call0_call0_v48 : Ref sig .tc := ⟨.hbm, 97, rfl⟩
abbrev main_call0_call0_v49 : Ref sig .tc := ⟨.hbm, 98, rfl⟩
abbrev main_call0_call0_c_12 : Ref sig .tc := ⟨.hbm, 99, rfl⟩
abbrev main_call0_call0_v50 : Ref sig .tc := ⟨.hbm, 100, rfl⟩
abbrev main_call0_call0_v51 : Ref sig .tc := ⟨.hbm, 101, rfl⟩
abbrev main_call0_call0_v52 : Ref sig .tc := ⟨.hbm, 102, rfl⟩
abbrev main_call0_call0_v53 : Ref sig .tc := ⟨.hbm, 103, rfl⟩
abbrev main_call0_call0_v54 : Ref sig .tc := ⟨.hbm, 104, rfl⟩
abbrev main_call0_call0_c_13 : Ref sig .tc := ⟨.hbm, 105, rfl⟩
abbrev main_call0_call0_v55 : Ref sig .tc := ⟨.hbm, 106, rfl⟩
abbrev main_call0_call0_v56 : Ref sig .tc := ⟨.hbm, 107, rfl⟩
abbrev main_call0_call0_c_14 : Ref sig .tc := ⟨.hbm, 108, rfl⟩
abbrev main_call0_call0_v57 : Ref sig .tc := ⟨.hbm, 109, rfl⟩
abbrev main_call0_call0_v58 : Ref sig .tc := ⟨.hbm, 110, rfl⟩
abbrev main_call0_call0_v59 : Ref sig .tc := ⟨.hbm, 111, rfl⟩
abbrev main_call0_call0_v60 : Ref sig .tc := ⟨.hbm, 112, rfl⟩
abbrev main_call0_call0_v61 : Ref sig .tc := ⟨.hbm, 113, rfl⟩
abbrev main_call0_call0_c_15 : Ref sig .tc := ⟨.hbm, 114, rfl⟩
abbrev main_call0_call0_v62 : Ref sig .tc := ⟨.hbm, 115, rfl⟩
abbrev main_call0_call0_v63 : Ref sig .tc := ⟨.hbm, 116, rfl⟩
abbrev main_call0_call0_c_16 : Ref sig .tc := ⟨.hbm, 117, rfl⟩
abbrev main_call0_call0_v64 : Ref sig .tc := ⟨.hbm, 118, rfl⟩
abbrev main_call0_call0_v65 : Ref sig .tc := ⟨.hbm, 119, rfl⟩
abbrev main_call0_call0_v66 : Ref sig .tc := ⟨.hbm, 120, rfl⟩
abbrev main_call0_call0_v67 : Ref sig .tc := ⟨.hbm, 121, rfl⟩
abbrev main_call0_call0_v68 : Ref sig .tc := ⟨.hbm, 122, rfl⟩
abbrev main_call0_call0_v69 : Ref sig .tc := ⟨.hbm, 123, rfl⟩
abbrev main_call0_call0_v70 : Ref sig .tc := ⟨.hbm, 124, rfl⟩
abbrev main_call0_call0_v71 : Ref sig .tc := ⟨.hbm, 125, rfl⟩
abbrev main_call0_call0_c_17 : Ref sig .tc := ⟨.hbm, 126, rfl⟩
abbrev main_call0_call0_v72 : Ref sig .tc := ⟨.hbm, 127, rfl⟩
abbrev main_call0_call0_v73 : Ref sig .tc := ⟨.hbm, 128, rfl⟩
abbrev main_call0_call0_v74 : Ref sig .tc := ⟨.hbm, 129, rfl⟩
abbrev main_call0_call0_c_18 : Ref sig .tc := ⟨.hbm, 130, rfl⟩
abbrev main_call0_call0_v75 : Ref sig .tc := ⟨.hbm, 131, rfl⟩
abbrev main_call0_call0_v76 : Ref sig .tc := ⟨.hbm, 132, rfl⟩
abbrev main_call0_call0_c_19 : Ref sig .tc := ⟨.hbm, 133, rfl⟩
abbrev main_call0_call0_v77 : Ref sig .tc := ⟨.hbm, 134, rfl⟩
abbrev main_call0_call0_v78 : Ref sig .tc := ⟨.hbm, 135, rfl⟩
abbrev main_call0_call0_v79 : Ref sig .tc := ⟨.hbm, 136, rfl⟩
abbrev main_call0_call0_v80 : Ref sig .tc := ⟨.hbm, 137, rfl⟩
abbrev main_call0_call0_v81 : Ref sig .tc := ⟨.hbm, 138, rfl⟩
abbrev main_call0_call0_c_20 : Ref sig .tc := ⟨.hbm, 139, rfl⟩
abbrev main_call0_call0_v82 : Ref sig .tc := ⟨.hbm, 140, rfl⟩
abbrev main_call0_call0_v83 : Ref sig .tc := ⟨.hbm, 141, rfl⟩
abbrev main_call0_call0_c_21 : Ref sig .tc := ⟨.hbm, 142, rfl⟩
abbrev main_call0_call0_v84 : Ref sig .tc := ⟨.hbm, 143, rfl⟩
abbrev main_call0_call0_v85 : Ref sig .tc := ⟨.hbm, 144, rfl⟩
abbrev main_call0_call0_v86 : Ref sig .tc := ⟨.hbm, 145, rfl⟩
abbrev main_call0_call0_v87 : Ref sig .tc := ⟨.hbm, 146, rfl⟩
abbrev main_call0_call0_v88 : Ref sig .tc := ⟨.hbm, 147, rfl⟩
abbrev main_call0_call0_c_22 : Ref sig .tc := ⟨.hbm, 148, rfl⟩
abbrev main_call0_call0_v89 : Ref sig .tc := ⟨.hbm, 149, rfl⟩
abbrev main_call0_call0_v90 : Ref sig .tc := ⟨.hbm, 150, rfl⟩
abbrev main_call0_call0_c_23 : Ref sig .tc := ⟨.hbm, 151, rfl⟩
abbrev main_call0_call0_v91 : Ref sig .tc := ⟨.hbm, 152, rfl⟩
abbrev main_call0_call0_v92 : Ref sig .tc := ⟨.hbm, 153, rfl⟩
abbrev main_call0_call0_v93 : Ref sig .tc := ⟨.hbm, 154, rfl⟩
abbrev main_call0_call0_v94 : Ref sig .tc := ⟨.hbm, 155, rfl⟩
abbrev main_call0_call0_v95 : Ref sig .tc := ⟨.hbm, 156, rfl⟩
abbrev main_call0_call0_c_24 : Ref sig .tc := ⟨.hbm, 157, rfl⟩
abbrev main_call0_call0_v96 : Ref sig .tc := ⟨.hbm, 158, rfl⟩
abbrev main_call0_call0_v97 : Ref sig .tc := ⟨.hbm, 159, rfl⟩
abbrev main_call0_call0_c_25 : Ref sig .tc := ⟨.hbm, 160, rfl⟩
abbrev main_call0_call0_v98 : Ref sig .tc := ⟨.hbm, 161, rfl⟩
abbrev main_call0_call0_v99 : Ref sig .tc := ⟨.hbm, 162, rfl⟩
abbrev main_call0_call0_v100 : Ref sig .tc := ⟨.hbm, 163, rfl⟩
abbrev main_call0_call0_v101 : Ref sig .tc := ⟨.hbm, 164, rfl⟩
abbrev main_call0_call0_v102 : Ref sig .tc := ⟨.hbm, 165, rfl⟩
abbrev main_call0_call0_v103 : Ref sig .tc := ⟨.hbm, 166, rfl⟩
abbrev main_call0_call0_v104 : Ref sig .tc := ⟨.hbm, 167, rfl⟩
abbrev main_call0_call0_v105 : Ref sig .tc := ⟨.hbm, 168, rfl⟩
abbrev main_call0_call0_c_26 : Ref sig .tc := ⟨.hbm, 169, rfl⟩
abbrev main_call0_call0_v106 : Ref sig .tc := ⟨.hbm, 170, rfl⟩
abbrev main_call0_call0_v107 : Ref sig .tc := ⟨.hbm, 171, rfl⟩
abbrev main_call0_call0_v108 : Ref sig .tc := ⟨.hbm, 172, rfl⟩
abbrev main_call0_call0_c_27 : Ref sig .tc := ⟨.hbm, 173, rfl⟩
abbrev main_call0_call0_v109 : Ref sig .tc := ⟨.hbm, 174, rfl⟩
abbrev main_call0_call0_v110 : Ref sig .tc := ⟨.hbm, 175, rfl⟩
abbrev main_call0_call0_c_28 : Ref sig .tc := ⟨.hbm, 176, rfl⟩
abbrev main_call0_call0_v111 : Ref sig .tc := ⟨.hbm, 177, rfl⟩
abbrev main_call0_call0_v112 : Ref sig .tc := ⟨.hbm, 178, rfl⟩
abbrev main_call0_call0_v113 : Ref sig .tc := ⟨.hbm, 179, rfl⟩
abbrev main_call0_call0_v114 : Ref sig .tc := ⟨.hbm, 180, rfl⟩
abbrev main_call0_call0_v115 : Ref sig .tc := ⟨.hbm, 181, rfl⟩
abbrev main_call0_call0_c_29 : Ref sig .tc := ⟨.hbm, 182, rfl⟩
abbrev main_call0_call0_v116 : Ref sig .tc := ⟨.hbm, 183, rfl⟩
abbrev main_call0_call0_v117 : Ref sig .tc := ⟨.hbm, 184, rfl⟩
abbrev main_call0_call0_c_30 : Ref sig .tc := ⟨.hbm, 185, rfl⟩
abbrev main_call0_call0_v118 : Ref sig .tc := ⟨.hbm, 186, rfl⟩
abbrev main_call0_call0_v119 : Ref sig .tc := ⟨.hbm, 187, rfl⟩
abbrev main_call0_call0_v120 : Ref sig .tc := ⟨.hbm, 188, rfl⟩
abbrev main_call0_call0_v121 : Ref sig .tc := ⟨.hbm, 189, rfl⟩
abbrev main_call0_call0_v122 : Ref sig .tc := ⟨.hbm, 190, rfl⟩
abbrev main_call0_call0_c_31 : Ref sig .tc := ⟨.hbm, 191, rfl⟩
abbrev main_call0_call0_v123 : Ref sig .tc := ⟨.hbm, 192, rfl⟩
abbrev main_call0_call0_v124 : Ref sig .tc := ⟨.hbm, 193, rfl⟩
abbrev main_call0_call0_c_32 : Ref sig .tc := ⟨.hbm, 194, rfl⟩
abbrev main_call0_call0_v125 : Ref sig .tc := ⟨.hbm, 195, rfl⟩
abbrev main_call0_call0_v126 : Ref sig .tc := ⟨.hbm, 196, rfl⟩
abbrev main_call0_call0_v127 : Ref sig .tc := ⟨.hbm, 197, rfl⟩
abbrev main_call0_call0_v128 : Ref sig .tc := ⟨.hbm, 198, rfl⟩
abbrev main_call0_call0_v129 : Ref sig .tc := ⟨.hbm, 199, rfl⟩
abbrev main_call0_call0_c_33 : Ref sig .tc := ⟨.hbm, 200, rfl⟩
abbrev main_call0_call0_v130 : Ref sig .tc := ⟨.hbm, 201, rfl⟩
abbrev main_call0_call0_v131 : Ref sig .tc := ⟨.hbm, 202, rfl⟩
abbrev main_call0_call0_c_34 : Ref sig .tc := ⟨.hbm, 203, rfl⟩
abbrev main_call0_call0_v132 : Ref sig .tc := ⟨.hbm, 204, rfl⟩
abbrev main_call0_call0_v133 : Ref sig .tc := ⟨.hbm, 205, rfl⟩
abbrev main_call0_call0_v134 : Ref sig .tc := ⟨.hbm, 206, rfl⟩
abbrev main_call0_call0_v135 : Ref sig .tc := ⟨.hbm, 207, rfl⟩
abbrev main_call0_call0_v136 : Ref sig .tc := ⟨.hbm, 208, rfl⟩
abbrev main_call0_call0_v137 : Ref sig .tc := ⟨.hbm, 209, rfl⟩
abbrev main_call0_call0_v138 : Ref sig .tc := ⟨.hbm, 210, rfl⟩
abbrev main_call0_call0_v139 : Ref sig .tc := ⟨.hbm, 211, rfl⟩
abbrev main_call0_call0_c_35 : Ref sig .tc := ⟨.hbm, 212, rfl⟩
abbrev main_call0_call0_v140 : Ref sig .tc := ⟨.hbm, 213, rfl⟩
abbrev main_call0_call0_v141 : Ref sig .tc := ⟨.hbm, 214, rfl⟩
abbrev main_call0_call0_v142 : Ref sig .tc := ⟨.hbm, 215, rfl⟩
abbrev main_call0_call0_c_36 : Ref sig .tc := ⟨.hbm, 216, rfl⟩
abbrev main_call0_call0_v143 : Ref sig .tc := ⟨.hbm, 217, rfl⟩
abbrev main_call0_call0_v144 : Ref sig .tc := ⟨.hbm, 218, rfl⟩
abbrev main_call0_call0_c_37 : Ref sig .tc := ⟨.hbm, 219, rfl⟩
abbrev main_call0_call0_v145 : Ref sig .tc := ⟨.hbm, 220, rfl⟩
abbrev main_call0_call0_v146 : Ref sig .tc := ⟨.hbm, 221, rfl⟩
abbrev main_call0_call0_v147 : Ref sig .tc := ⟨.hbm, 222, rfl⟩
abbrev main_call0_call0_v148 : Ref sig .tc := ⟨.hbm, 223, rfl⟩
abbrev main_call0_call0_v149 : Ref sig .tc := ⟨.hbm, 224, rfl⟩
abbrev main_call0_call0_c_38 : Ref sig .tc := ⟨.hbm, 225, rfl⟩
abbrev main_call0_call0_v150 : Ref sig .tc := ⟨.hbm, 226, rfl⟩
abbrev main_call0_call0_v151 : Ref sig .tc := ⟨.hbm, 227, rfl⟩
abbrev main_call0_call0_c_39 : Ref sig .tc := ⟨.hbm, 228, rfl⟩
abbrev main_call0_call0_v152 : Ref sig .tc := ⟨.hbm, 229, rfl⟩
abbrev main_call0_call0_v153 : Ref sig .tc := ⟨.hbm, 230, rfl⟩
abbrev main_call0_call0_v154 : Ref sig .tc := ⟨.hbm, 231, rfl⟩
abbrev main_call0_call0_v155 : Ref sig .tc := ⟨.hbm, 232, rfl⟩
abbrev main_call0_call0_v156 : Ref sig .tc := ⟨.hbm, 233, rfl⟩
abbrev main_call0_call0_c_40 : Ref sig .tc := ⟨.hbm, 234, rfl⟩
abbrev main_call0_call0_v157 : Ref sig .tc := ⟨.hbm, 235, rfl⟩
abbrev main_call0_call0_v158 : Ref sig .tc := ⟨.hbm, 236, rfl⟩
abbrev main_call0_call0_c_41 : Ref sig .tc := ⟨.hbm, 237, rfl⟩
abbrev main_call0_call0_v159 : Ref sig .tc := ⟨.hbm, 238, rfl⟩
abbrev main_call0_call0_v160 : Ref sig .tc := ⟨.hbm, 239, rfl⟩
abbrev main_call0_call0_v161 : Ref sig .tc := ⟨.hbm, 240, rfl⟩
abbrev main_call0_call0_v162 : Ref sig .tc := ⟨.hbm, 241, rfl⟩
abbrev main_call0_call0_v163 : Ref sig .tc := ⟨.hbm, 242, rfl⟩
abbrev main_call0_call0_c_42 : Ref sig .tc := ⟨.hbm, 243, rfl⟩
abbrev main_call0_call0_v164 : Ref sig .tc := ⟨.hbm, 244, rfl⟩
abbrev main_call0_call0_v165 : Ref sig .tc := ⟨.hbm, 245, rfl⟩
abbrev main_call0_call0_c_43 : Ref sig .tc := ⟨.hbm, 246, rfl⟩
abbrev main_call0_call0_v166 : Ref sig .tc := ⟨.hbm, 247, rfl⟩
abbrev main_call0_call0_v167 : Ref sig .tc := ⟨.hbm, 248, rfl⟩
abbrev main_call0_call0_v168 : Ref sig .tc := ⟨.hbm, 249, rfl⟩
abbrev main_call0_call0_v169 : Ref sig .tc := ⟨.hbm, 250, rfl⟩
abbrev main_call0_call0_v170 : Ref sig .tc := ⟨.hbm, 251, rfl⟩
abbrev main_call0_v19_0 : Ref sig .tc := ⟨.hbm, 252, rfl⟩
abbrev main_call0_call0_v172 : Ref sig .tc := ⟨.hbm, 253, rfl⟩
abbrev main_call0_call0_v173 : Ref sig .tc := ⟨.hbm, 254, rfl⟩
abbrev main_call0_call0_c_44 : Ref sig .tc := ⟨.hbm, 255, rfl⟩
abbrev main_call0_call0_v174 : Ref sig .tc := ⟨.hbm, 256, rfl⟩
abbrev main_call0_v19_1 : Ref sig .tc := ⟨.hbm, 257, rfl⟩
abbrev main_call0_v20 : Ref sig .tc := ⟨.hbm, 258, rfl⟩
abbrev main_call0_c_2 : Ref sig .tc := ⟨.hbm, 259, rfl⟩
abbrev main_call0_v21 : Ref sig .tc := ⟨.hbm, 260, rfl⟩
abbrev main_call0_v22 : Ref sig .tc := ⟨.hbm, 261, rfl⟩
abbrev main_call0_c_3 : Ref sig .tc := ⟨.hbm, 262, rfl⟩
abbrev main_call0_v23 : Ref sig .tc := ⟨.hbm, 263, rfl⟩
abbrev main_call0_v24 : Ref sig .tc := ⟨.hbm, 264, rfl⟩
abbrev main_call0_v25 : Ref sig .tc := ⟨.hbm, 265, rfl⟩
abbrev main_call0_cst : Ref sig .tc := ⟨.hbm, 266, rfl⟩
abbrev main_call0_v26 : Ref sig .tc := ⟨.hbm, 267, rfl⟩
abbrev main_call0_v27 : Ref sig .tc := ⟨.hbm, 268, rfl⟩
abbrev main_call0_v28 : Ref sig .tc := ⟨.hbm, 269, rfl⟩
abbrev main_call0_v29 : Ref sig .tc := ⟨.hbm, 270, rfl⟩
abbrev main_call0_v30 : Ref sig .tc := ⟨.hbm, 271, rfl⟩
abbrev main_call0_v31 : Ref sig .tc := ⟨.hbm, 272, rfl⟩
abbrev main_call0_v32 : Ref sig .tc := ⟨.hbm, 273, rfl⟩
abbrev main_call0_v33 : Ref sig .tc := ⟨.hbm, 274, rfl⟩
abbrev main_v7 : Ref sig .tc := ⟨.hbm, 275, rfl⟩
abbrev main_cst_3 : Ref sig .tc := ⟨.hbm, 276, rfl⟩
abbrev main_v8 : Ref sig .tc := ⟨.hbm, 277, rfl⟩
abbrev main_v9 : Ref sig .tc := ⟨.hbm, 278, rfl⟩
abbrev main_v10 : Ref sig .tc := ⟨.hbm, 279, rfl⟩
abbrev main_v11 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_call1_v0 : Ref sig .tc := ⟨.hbm, 284, rfl⟩
abbrev main_call1_cst : Ref sig .tc := ⟨.hbm, 285, rfl⟩
abbrev main_call1_c : Ref sig .tc := ⟨.hbm, 286, rfl⟩
abbrev main_call1_v1_0 : Ref sig .tc := ⟨.hbm, 287, rfl⟩
abbrev main_v15 : Ref sig .tc := ⟨.hbm, 288, rfl⟩
abbrev main_call2_v0 : Ref sig .tc := ⟨.hbm, 289, rfl⟩
abbrev main_call2_v1 : Ref sig .tc := ⟨.hbm, 290, rfl⟩
abbrev main_call2_v2 : Ref sig .tc := ⟨.hbm, 291, rfl⟩
abbrev main_call2_v3 : Ref sig .tc := ⟨.hbm, 292, rfl⟩
abbrev main_call2_v4 : Ref sig .tc := ⟨.hbm, 293, rfl⟩
abbrev main_v16 : Ref sig .tc := ⟨.hbm, 294, rfl⟩
abbrev main_call3_cst : Ref sig .tc := ⟨.hbm, 295, rfl⟩
abbrev main_call3_v0 : Ref sig .tc := ⟨.hbm, 296, rfl⟩
abbrev main_call3_cst_0 : Ref sig .tc := ⟨.hbm, 297, rfl⟩
abbrev main_call3_v1 : Ref sig .tc := ⟨.hbm, 298, rfl⟩
abbrev main_call3_v2 : Ref sig .tc := ⟨.hbm, 299, rfl⟩
abbrev main_call3_v3 : Ref sig .tc := ⟨.hbm, 300, rfl⟩
abbrev main_call3_v4 : Ref sig .tc := ⟨.hbm, 301, rfl⟩
abbrev main_call3_v5 : Ref sig .tc := ⟨.hbm, 302, rfl⟩
abbrev main_call3_v6 : Ref sig .tc := ⟨.hbm, 303, rfl⟩
abbrev main_call3_cst_1 : Ref sig .tc := ⟨.hbm, 304, rfl⟩
abbrev main_call3_v7 : Ref sig .tc := ⟨.hbm, 305, rfl⟩
abbrev main_call3_v8 : Ref sig .tc := ⟨.hbm, 306, rfl⟩
abbrev main_call3_v9 : Ref sig .tc := ⟨.hbm, 307, rfl⟩
abbrev main_call3_v10 : Ref sig .tc := ⟨.hbm, 308, rfl⟩
abbrev main_v17 : Ref sig .tc := ⟨.hbm, 309, rfl⟩
abbrev main_v18 : Ref sig .tc := ⟨.hbm, 310, rfl⟩
abbrev main_cst_4 : Ref sig .tc := ⟨.hbm, 311, rfl⟩
abbrev main_v19 : Ref sig .tc := ⟨.hbm, 312, rfl⟩
abbrev main_call4_c : Ref sig .tc := ⟨.hbm, 313, rfl⟩
abbrev main_call4_v0 : Ref sig .tc := ⟨.hbm, 314, rfl⟩
abbrev main_call4_v1 : Ref sig .tc := ⟨.hbm, 315, rfl⟩
abbrev main_call4_c_0 : Ref sig .tc := ⟨.hbm, 316, rfl⟩
abbrev main_call4_v2 : Ref sig .tc := ⟨.hbm, 317, rfl⟩
abbrev main_call4_v3 : Ref sig .tc := ⟨.hbm, 318, rfl⟩
abbrev main_call4_v4 : Ref sig .tc := ⟨.hbm, 319, rfl⟩
abbrev main_call4_v5 : Ref sig .tc := ⟨.hbm, 320, rfl⟩
abbrev main_call4_c_1 : Ref sig .tc := ⟨.hbm, 321, rfl⟩
abbrev main_call4_c_2 : Ref sig .tc := ⟨.hbm, 322, rfl⟩
abbrev main_call4_v6 : Ref sig .tc := ⟨.hbm, 323, rfl⟩
abbrev main_call4_v7 : Ref sig .tc := ⟨.hbm, 324, rfl⟩
abbrev main_call4_v8 : Ref sig .tc := ⟨.hbm, 325, rfl⟩
abbrev main_call4_v9 : Ref sig .tc := ⟨.hbm, 326, rfl⟩
abbrev main_call4_v10 : Ref sig .tc := ⟨.hbm, 327, rfl⟩
abbrev main_call4_v11 : Ref sig .tc := ⟨.hbm, 328, rfl⟩
abbrev main_call4_c_3 : Ref sig .tc := ⟨.hbm, 329, rfl⟩
abbrev main_call4_v12 : Ref sig .tc := ⟨.hbm, 330, rfl⟩
abbrev main_call4_v13 : Ref sig .tc := ⟨.hbm, 331, rfl⟩
abbrev main_call4_c_4 : Ref sig .tc := ⟨.hbm, 332, rfl⟩
abbrev main_call4_v14 : Ref sig .tc := ⟨.hbm, 333, rfl⟩
abbrev main_v20 : Ref sig .tc := ⟨.hbm, 334, rfl⟩
abbrev main_v21 : Ref sig .tc := ⟨.hbm, 335, rfl⟩
abbrev main_v22 : Ref sig .tc := ⟨.hbm, 336, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame

@[expose] public section

set_option Elab.async false

/-! ## The reference's operations as one list -/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v6`, named. It packs its operands into a list of dependent pairs
    whose shapes a later argument's type mentions, so `simp` cannot rewrite an operand where it stands; applied by
    name, the operands are plain arguments, which the window lemmas below rewrite before the name unfolds. -/
def fn_main_v6 : (⟨S1, .i32⟩ : BufTy).Contents (Elt F) → (⟨S1, .i32⟩ : BufTy).Contents (Elt F) → (⟨S2, .i32⟩ : BufTy).Contents (Elt F) :=
  (fun a b => concatenate S2 0 [⟨S1, a⟩, ⟨S1, b⟩] concatenates_S1_S1_S2_d0)

/-- @main's operations 1 … 30 of 335. -/
abbrev ops_0 : List (HloOp τ sig (Elt F)) :=
  [ nullary main_c (constantI S_ 32 42#32),
    nullary main_c_0 (constantI S_ 32 32#32),
    binary main_c main_c_0 main_v0 (Host.shrui : (⟨S_, .i32⟩ : BufTy).Contents (Elt F) → (⟨S_, .i32⟩ : BufTy).Contents (Elt F) → (⟨S_, .i32⟩ : BufTy).Contents (Elt F)),
    unary main_v0 main_v1 (id : (⟨S_, .i32⟩ : BufTy).Contents (Elt F) → (⟨S_, .i32⟩ : BufTy).Contents (Elt F)),
    unary main_v1 main_v2 (broadcastInDim S1 ![] bcast_S_S1 : (⟨S_, .i32⟩ : BufTy).Contents (Elt F) → (⟨S1, .i32⟩ : BufTy).Contents (Elt F)),
    nullary main_c_1 (constantI S_ 32 4294967295#32),
    binary main_c main_c_1 main_v3 (andi : (⟨S_, .i32⟩ : BufTy).Contents (Elt F) → (⟨S_, .i32⟩ : BufTy).Contents (Elt F) → (⟨S_, .i32⟩ : BufTy).Contents (Elt F)),
    unary main_v3 main_v4 (id : (⟨S_, .i32⟩ : BufTy).Contents (Elt F) → (⟨S_, .i32⟩ : BufTy).Contents (Elt F)),
    unary main_v4 main_v5 (broadcastInDim S1 ![] bcast_S_S1 : (⟨S_, .i32⟩ : BufTy).Contents (Elt F) → (⟨S1, .i32⟩ : BufTy).Contents (Elt F)),
    binary main_v2 main_v5 main_v6 (fn_main_v6 (F := F)),
    nullary main_cst (constant S_ .f32 0x00000000#32),
    nullary main_cst_2 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_2) (TRef.of (T := ⟨S_, .f32⟩) main_call0_v1) id,
    TRef.unary (TRef.of (T := ⟨S_, .f32⟩) main_call0_v0) (TRef.of (T := ⟨S1x1, .f32⟩) main_call0_v2) (broadcastInDim S1x1 ![] bcast_S_S1x1),
    TRef.unary (TRef.of (T := ⟨S_, .f32⟩) main_call0_v1) (TRef.of (T := ⟨S1x1, .f32⟩) main_call0_v3) (broadcastInDim S1x1 ![] bcast_S_S1x1),
    TRef.unary (TRef.of (T := ⟨S2, .i32⟩) main_v6) (TRef.of (T := ⟨S1, .i32⟩) main_call0_v4) (extractStridedSlice S1 ![0] · slices_S2_S1_0),
    TRef.reshape (TRef.of (T := ⟨S1, .i32⟩) main_call0_v4) (TRef.of (T := ⟨S_, .i32⟩) main_call0_v5) (rfl : (.i32 : EltTy) = .i32) shapeCasts_S1_S_,
    TRef.unary (TRef.of (T := ⟨S2, .i32⟩) main_v6) (TRef.of (T := ⟨S1, .i32⟩) main_call0_v6) (extractStridedSlice S1 ![1] · slices_S2_S1_1),
    TRef.reshape (TRef.of (T := ⟨S1, .i32⟩) main_call0_v6) (TRef.of (T := ⟨S_, .i32⟩) main_call0_v7) (rfl : (.i32 : EltTy) = .i32) shapeCasts_S1_S_,
    TRef.nullary (TRef.of (T := ⟨S128x100000, .i64⟩) main_call0_v8) (iotaInDim S128x100000 64 0),
    TRef.nullary (TRef.of (T := ⟨S128x100000, .i64⟩) main_call0_v9) (iotaInDim S128x100000 64 1),
    TRef.nullary (TRef.of (T := ⟨S_, .i64⟩) main_call0_c) (constantI S_ 64 100000#64),
    TRef.unary (TRef.of (T := ⟨S_, .i64⟩) main_call0_c) (TRef.of (T := ⟨S128x100000, .i64⟩) main_call0_v10) (broadcastInDim S128x100000 ![] bcast_S_S128x100000),
    TRef.binary (TRef.of (T := ⟨S128x100000, .i64⟩) main_call0_v10) (TRef.of (T := ⟨S128x100000, .i64⟩) main_call0_v8) (TRef.of (T := ⟨S128x100000, .i64⟩) main_call0_v11) muli,
    TRef.nullary (TRef.of (T := ⟨S_, .i64⟩) main_call0_c_0) (constantI S_ 64 1#64),
    TRef.unary (TRef.of (T := ⟨S_, .i64⟩) main_call0_c_0) (TRef.of (T := ⟨S128x100000, .i64⟩) main_call0_v12) (broadcastInDim S128x100000 ![] bcast_S_S128x100000),
    TRef.binary (TRef.of (T := ⟨S128x100000, .i64⟩) main_call0_v12) (TRef.of (T := ⟨S128x100000, .i64⟩) main_call0_v9) (TRef.of (T := ⟨S128x100000, .i64⟩) main_call0_v13) muli,
    TRef.binary (TRef.of (T := ⟨S128x100000, .i64⟩) main_call0_v11) (TRef.of (T := ⟨S128x100000, .i64⟩) main_call0_v13) (TRef.of (T := ⟨S128x100000, .i64⟩) main_call0_v14) addi,
    TRef.nullary (TRef.of (T := ⟨S_, .i64⟩) main_call0_c_1) (constantI S_ 64 32#64) ]

/-- @main's operations 31 … 60 of 335. -/
abbrev ops_1 : List (HloOp τ sig (Elt F)) :=
  [ TRef.unary (TRef.of (T := ⟨S_, .i64⟩) main_call0_c_1) (TRef.of (T := ⟨S128x100000, .i64⟩) main_call0_v15) (broadcastInDim S128x100000 ![] bcast_S_S128x100000),
    TRef.binary (TRef.of (T := ⟨S128x100000, .i64⟩) main_call0_v14) (TRef.of (T := ⟨S128x100000, .i64⟩) main_call0_v15) (TRef.of (T := ⟨S128x100000, .i64⟩) main_call0_v16) Host.shrui,
    TRef.unary (TRef.of (T := ⟨S128x100000, .i64⟩) main_call0_v14) (TRef.of (T := ⟨S128x100000, .i32⟩) main_call0_v17) (trunci 32 · natLt_32_64),
    TRef.unary (TRef.of (T := ⟨S128x100000, .i64⟩) main_call0_v16) (TRef.of (T := ⟨S128x100000, .i32⟩) main_call0_v18) (trunci 32 · natLt_32_64),
    TRef.binary (TRef.of (T := ⟨S_, .i32⟩) main_call0_v5) (TRef.of (T := ⟨S_, .i32⟩) main_call0_v7) (TRef.of (T := ⟨S_, .i32⟩) main_call0_call0_v0) xori,
    TRef.nullary (TRef.of (T := ⟨S_, .i32⟩) main_call0_call0_c) (constantI S_ 32 466688986#32),
    TRef.binary (TRef.of (T := ⟨S_, .i32⟩) main_call0_call0_v0) (TRef.of (T := ⟨S_, .i32⟩) main_call0_call0_c) (TRef.of (T := ⟨S_, .i32⟩) main_call0_call0_v1) xori,
    TRef.unary (TRef.of (T := ⟨S_, .i32⟩) main_call0_v5) (TRef.of (T := ⟨S128x100000, .i32⟩) main_call0_call0_v2) (broadcastInDim S128x100000 ![] bcast_S_S128x100000),
    TRef.binary (TRef.of (T := ⟨S128x100000, .i32⟩) main_call0_v18) (TRef.of (T := ⟨S128x100000, .i32⟩) main_call0_call0_v2) (TRef.of (T := ⟨S128x100000, .i32⟩) main_call0_call0_v3) addi,
    TRef.unary (TRef.of (T := ⟨S_, .i32⟩) main_call0_v7) (TRef.of (T := ⟨S128x100000, .i32⟩) main_call0_call0_v4) (broadcastInDim S128x100000 ![] bcast_S_S128x100000),
    TRef.binary (TRef.of (T := ⟨S128x100000, .i32⟩) main_call0_v17) (TRef.of (T := ⟨S128x100000, .i32⟩) main_call0_call0_v4) (TRef.of (T := ⟨S128x100000, .i32⟩) main_call0_call0_v5) addi,
    TRef.binary (TRef.of (T := ⟨S128x100000, .i32⟩) main_call0_call0_v3) (TRef.of (T := ⟨S128x100000, .i32⟩) main_call0_call0_v5) (TRef.of (T := ⟨S128x100000, .i32⟩) main_call0_call0_v6) addi,
    TRef.nullary (TRef.of (T := ⟨S_, .i32⟩) main_call0_call0_c_0) (constantI S_ 32 13#32),
    TRef.unary (TRef.of (T := ⟨S_, .i32⟩) main_call0_call0_c_0) (TRef.of (T := ⟨S128x100000, .i32⟩) main_call0_call0_v7) (broadcastInDim S128x100000 ![] bcast_S_S128x100000),
    TRef.binary (TRef.of (T := ⟨S128x100000, .i32⟩) main_call0_call0_v5) (TRef.of (T := ⟨S128x100000, .i32⟩) main_call0_call0_v7) (TRef.of (T := ⟨S128x100000, .i32⟩) main_call0_call0_v8) Host.shli,
    TRef.nullary (TRef.of (T := ⟨S_, .i32⟩) main_call0_call0_c_1) (constantI S_ 32 19#32),
    TRef.unary (TRef.of (T := ⟨S_, .i32⟩) main_call0_call0_c_1) (TRef.of (T := ⟨S128x100000, .i32⟩) main_call0_call0_v9) (broadcastInDim S128x100000 ![] bcast_S_S128x100000),
    TRef.binary (TRef.of (T := ⟨S128x100000, .i32⟩) main_call0_call0_v5) (TRef.of (T := ⟨S128x100000, .i32⟩) main_call0_call0_v9) (TRef.of (T := ⟨S128x100000, .i32⟩) main_call0_call0_v10) Host.shrui,
    TRef.binary (TRef.of (T := ⟨S128x100000, .i32⟩) main_call0_call0_v8) (TRef.of (T := ⟨S128x100000, .i32⟩) main_call0_call0_v10) (TRef.of (T := ⟨S128x100000, .i32⟩) main_call0_call0_v11) ori,
    TRef.binary (TRef.of (T := ⟨S128x100000, .i32⟩) main_call0_call0_v6) (TRef.of (T := ⟨S128x100000, .i32⟩) main_call0_call0_v11) (TRef.of (T := ⟨S128x100000, .i32⟩) main_call0_call0_v12) xori,
    TRef.binary (TRef.of (T := ⟨S128x100000, .i32⟩) main_call0_call0_v6) (TRef.of (T := ⟨S128x100000, .i32⟩) main_call0_call0_v12) (TRef.of (T := ⟨S128x100000, .i32⟩) main_call0_call0_v13) addi,
    TRef.nullary (TRef.of (T := ⟨S_, .i32⟩) main_call0_call0_c_2) (constantI S_ 32 15#32),
    TRef.unary (TRef.of (T := ⟨S_, .i32⟩) main_call0_call0_c_2) (TRef.of (T := ⟨S128x100000, .i32⟩) main_call0_call0_v14) (broadcastInDim S128x100000 ![] bcast_S_S128x100000),
    TRef.binary (TRef.of (T := ⟨S128x100000, .i32⟩) main_call0_call0_v12) (TRef.of (T := ⟨S128x100000, .i32⟩) main_call0_call0_v14) (TRef.of (T := ⟨S128x100000, .i32⟩) main_call0_call0_v15) Host.shli,
    TRef.nullary (TRef.of (T := ⟨S_, .i32⟩) main_call0_call0_c_3) (constantI S_ 32 17#32),
    TRef.unary (TRef.of (T := ⟨S_, .i32⟩) main_call0_call0_c_3) (TRef.of (T := ⟨S128x100000, .i32⟩) main_call0_call0_v16) (broadcastInDim S128x100000 ![] bcast_S_S128x100000),
    TRef.binary (TRef.of (T := ⟨S128x100000, .i32⟩) main_call0_call0_v12) (TRef.of (T := ⟨S128x100000, .i32⟩) main_call0_call0_v16) (TRef.of (T := ⟨S128x100000, .i32⟩) main_call0_call0_v17) Host.shrui,
    TRef.binary (TRef.of (T := ⟨S128x100000, .i32⟩) main_call0_call0_v15) (TRef.of (T := ⟨S128x100000, .i32⟩) main_call0_call0_v17) (TRef.of (T := ⟨S128x100000, .i32⟩) main_call0_call0_v18) ori,
    TRef.binary (TRef.of (T := ⟨S128x100000, .i32⟩) main_call0_call0_v13) (TRef.of (T := ⟨S128x100000, .i32⟩) main_call0_call0_v18) (TRef.of (T := ⟨S128x100000, .i32⟩) main_call0_call0_v19) xori,
    TRef.binary (TRef.of (T := ⟨S128x100000, .i32⟩) main_call0_call0_v13) (TRef.of (T := ⟨S128x100000, .i32⟩) main_call0_call0_v19) (TRef.of (T := ⟨S128x100000, .i32⟩) main_call0_call0_v20) addi ]

/-- @main's operations 61 … 90 of 335. -/
abbrev ops_2 : List (HloOp τ sig (Elt F)) :=
  [ TRef.nullary (TRef.of (T := ⟨S_, .i32⟩) main_call0_call0_c_4) (constantI S_ 32 26#32),
    TRef.unary (TRef.of (T := ⟨S_, .i32⟩) main_call0_call0_c_4) (TRef.of (T := ⟨S128x100000, .i32⟩) main_call0_call0_v21) (broadcastInDim S128x100000 ![] bcast_S_S128x100000),
    TRef.binary (TRef.of (T := ⟨S128x100000, .i32⟩) main_call0_call0_v19) (TRef.of (T := ⟨S128x100000, .i32⟩) main_call0_call0_v21) (TRef.of (T := ⟨S128x100000, .i32⟩) main_call0_call0_v22) Host.shli,
    TRef.nullary (TRef.of (T := ⟨S_, .i32⟩) main_call0_call0_c_5) (constantI S_ 32 6#32),
    TRef.unary (TRef.of (T := ⟨S_, .i32⟩) main_call0_call0_c_5) (TRef.of (T := ⟨S128x100000, .i32⟩) main_call0_call0_v23) (broadcastInDim S128x100000 ![] bcast_S_S128x100000),
    TRef.binary (TRef.of (T := ⟨S128x100000, .i32⟩) main_call0_call0_v19) (TRef.of (T := ⟨S128x100000, .i32⟩) main_call0_call0_v23) (TRef.of (T := ⟨S128x100000, .i32⟩) main_call0_call0_v24) Host.shrui,
    TRef.binary (TRef.of (T := ⟨S128x100000, .i32⟩) main_call0_call0_v22) (TRef.of (T := ⟨S128x100000, .i32⟩) main_call0_call0_v24) (TRef.of (T := ⟨S128x100000, .i32⟩) main_call0_call0_v25) ori,
    TRef.binary (TRef.of (T := ⟨S128x100000, .i32⟩) main_call0_call0_v20) (TRef.of (T := ⟨S128x100000, .i32⟩) main_call0_call0_v25) (TRef.of (T := ⟨S128x100000, .i32⟩) main_call0_call0_v26) xori,
    TRef.binary (TRef.of (T := ⟨S128x100000, .i32⟩) main_call0_call0_v20) (TRef.of (T := ⟨S128x100000, .i32⟩) main_call0_call0_v26) (TRef.of (T := ⟨S128x100000, .i32⟩) main_call0_call0_v27) addi,
    TRef.nullary (TRef.of (T := ⟨S_, .i32⟩) main_call0_call0_c_6) (constantI S_ 32 6#32),
    TRef.unary (TRef.of (T := ⟨S_, .i32⟩) main_call0_call0_c_6) (TRef.of (T := ⟨S128x100000, .i32⟩) main_call0_call0_v28) (broadcastInDim S128x100000 ![] bcast_S_S128x100000),
    TRef.binary (TRef.of (T := ⟨S128x100000, .i32⟩) main_call0_call0_v26) (TRef.of (T := ⟨S128x100000, .i32⟩) main_call0_call0_v28) (TRef.of (T := ⟨S128x100000, .i32⟩) main_call0_call0_v29) Host.shli,
    TRef.nullary (TRef.of (T := ⟨S_, .i32⟩) main_call0_call0_c_7) (constantI S_ 32 26#32),
    TRef.unary (TRef.of (T := ⟨S_, .i32⟩) main_call0_call0_c_7) (TRef.of (T := ⟨S128x100000, .i32⟩) main_call0_call0_v30) (broadcastInDim S128x100000 ![] bcast_S_S128x100000),
    TRef.binary (TRef.of (T := ⟨S128x100000, .i32⟩) main_call0_call0_v26) (TRef.of (T := ⟨S128x100000, .i32⟩) main_call0_call0_v30) (TRef.of (T := ⟨S128x100000, .i32⟩) main_call0_call0_v31) Host.shrui,
    TRef.binary (TRef.of (T := ⟨S128x100000, .i32⟩) main_call0_call0_v29) (TRef.of (T := ⟨S128x100000, .i32⟩) main_call0_call0_v31) (TRef.of (T := ⟨S128x100000, .i32⟩) main_call0_call0_v32) ori,
    TRef.binary (TRef.of (T := ⟨S128x100000, .i32⟩) main_call0_call0_v27) (TRef.of (T := ⟨S128x100000, .i32⟩) main_call0_call0_v32) (TRef.of (T := ⟨S128x100000, .i32⟩) main_call0_call0_v33) xori,
    TRef.unary (TRef.of (T := ⟨S_, .i32⟩) main_call0_v7) (TRef.of (T := ⟨S128x100000, .i32⟩) main_call0_call0_v34) (broadcastInDim S128x100000 ![] bcast_S_S128x100000),
    TRef.binary (TRef.of (T := ⟨S128x100000, .i32⟩) main_call0_call0_v27) (TRef.of (T := ⟨S128x100000, .i32⟩) main_call0_call0_v34) (TRef.of (T := ⟨S128x100000, .i32⟩) main_call0_call0_v35) addi,
    TRef.unary (TRef.of (T := ⟨S_, .i32⟩) main_call0_call0_v1) (TRef.of (T := ⟨S128x100000, .i32⟩) main_call0_call0_v36) (broadcastInDim S128x100000 ![] bcast_S_S128x100000),
    TRef.binary (TRef.of (T := ⟨S128x100000, .i32⟩) main_call0_call0_v33) (TRef.of (T := ⟨S128x100000, .i32⟩) main_call0_call0_v36) (TRef.of (T := ⟨S128x100000, .i32⟩) main_call0_call0_v37) addi,
    TRef.nullary (TRef.of (T := ⟨S_, .i32⟩) main_call0_call0_c_8) (constantI S_ 32 1#32),
    TRef.unary (TRef.of (T := ⟨S_, .i32⟩) main_call0_call0_c_8) (TRef.of (T := ⟨S128x100000, .i32⟩) main_call0_call0_v38) (broadcastInDim S128x100000 ![] bcast_S_S128x100000),
    TRef.binary (TRef.of (T := ⟨S128x100000, .i32⟩) main_call0_call0_v37) (TRef.of (T := ⟨S128x100000, .i32⟩) main_call0_call0_v38) (TRef.of (T := ⟨S128x100000, .i32⟩) main_call0_call0_v39) addi,
    TRef.binary (TRef.of (T := ⟨S128x100000, .i32⟩) main_call0_call0_v35) (TRef.of (T := ⟨S128x100000, .i32⟩) main_call0_call0_v39) (TRef.of (T := ⟨S128x100000, .i32⟩) main_call0_call0_v40) addi,
    TRef.nullary (TRef.of (T := ⟨S_, .i32⟩) main_call0_call0_c_9) (constantI S_ 32 17#32),
    TRef.unary (TRef.of (T := ⟨S_, .i32⟩) main_call0_call0_c_9) (TRef.of (T := ⟨S128x100000, .i32⟩) main_call0_call0_v41) (broadcastInDim S128x100000 ![] bcast_S_S128x100000),
    TRef.binary (TRef.of (T := ⟨S128x100000, .i32⟩) main_call0_call0_v39) (TRef.of (T := ⟨S128x100000, .i32⟩) main_call0_call0_v41) (TRef.of (T := ⟨S128x100000, .i32⟩) main_call0_call0_v42) Host.shli,
    TRef.nullary (TRef.of (T := ⟨S_, .i32⟩) main_call0_call0_c_10) (constantI S_ 32 15#32),
    TRef.unary (TRef.of (T := ⟨S_, .i32⟩) main_call0_call0_c_10) (TRef.of (T := ⟨S128x100000, .i32⟩) main_call0_call0_v43) (broadcastInDim S128x100000 ![] bcast_S_S128x100000) ]

/-- @main's operations 91 … 120 of 335. -/
abbrev ops_3 : List (HloOp τ sig (Elt F)) :=
  [ TRef.binary (TRef.of (T := ⟨S128x100000, .i32⟩) main_call0_call0_v39) (TRef.of (T := ⟨S128x100000, .i32⟩) main_call0_call0_v43) (TRef.of (T := ⟨S128x100000, .i32⟩) main_call0_call0_v44) Host.shrui,
    TRef.binary (TRef.of (T := ⟨S128x100000, .i32⟩) main_call0_call0_v42) (TRef.of (T := ⟨S128x100000, .i32⟩) main_call0_call0_v44) (TRef.of (T := ⟨S128x100000, .i32⟩) main_call0_call0_v45) ori,
    TRef.binary (TRef.of (T := ⟨S128x100000, .i32⟩) main_call0_call0_v40) (TRef.of (T := ⟨S128x100000, .i32⟩) main_call0_call0_v45) (TRef.of (T := ⟨S128x100000, .i32⟩) main_call0_call0_v46) xori,
    TRef.binary (TRef.of (T := ⟨S128x100000, .i32⟩) main_call0_call0_v40) (TRef.of (T := ⟨S128x100000, .i32⟩) main_call0_call0_v46) (TRef.of (T := ⟨S128x100000, .i32⟩) main_call0_call0_v47) addi,
    TRef.nullary (TRef.of (T := ⟨S_, .i32⟩) main_call0_call0_c_11) (constantI S_ 32 29#32),
    TRef.unary (TRef.of (T := ⟨S_, .i32⟩) main_call0_call0_c_11) (TRef.of (T := ⟨S128x100000, .i32⟩) main_call0_call0_v48) (broadcastInDim S128x100000 ![] bcast_S_S128x100000),
    TRef.binary (TRef.of (T := ⟨S128x100000, .i32⟩) main_call0_call0_v46) (TRef.of (T := ⟨S128x100000, .i32⟩) main_call0_call0_v48) (TRef.of (T := ⟨S128x100000, .i32⟩) main_call0_call0_v49) Host.shli,
    TRef.nullary (TRef.of (T := ⟨S_, .i32⟩) main_call0_call0_c_12) (constantI S_ 32 3#32),
    TRef.unary (TRef.of (T := ⟨S_, .i32⟩) main_call0_call0_c_12) (TRef.of (T := ⟨S128x100000, .i32⟩) main_call0_call0_v50) (broadcastInDim S128x100000 ![] bcast_S_S128x100000),
    TRef.binary (TRef.of (T := ⟨S128x100000, .i32⟩) main_call0_call0_v46) (TRef.of (T := ⟨S128x100000, .i32⟩) main_call0_call0_v50) (TRef.of (T := ⟨S128x100000, .i32⟩) main_call0_call0_v51) Host.shrui,
    TRef.binary (TRef.of (T := ⟨S128x100000, .i32⟩) main_call0_call0_v49) (TRef.of (T := ⟨S128x100000, .i32⟩) main_call0_call0_v51) (TRef.of (T := ⟨S128x100000, .i32⟩) main_call0_call0_v52) ori,
    TRef.binary (TRef.of (T := ⟨S128x100000, .i32⟩) main_call0_call0_v47) (TRef.of (T := ⟨S128x100000, .i32⟩) main_call0_call0_v52) (TRef.of (T := ⟨S128x100000, .i32⟩) main_call0_call0_v53) xori,
    TRef.binary (TRef.of (T := ⟨S128x100000, .i32⟩) main_call0_call0_v47) (TRef.of (T := ⟨S128x100000, .i32⟩) main_call0_call0_v53) (TRef.of (T := ⟨S128x100000, .i32⟩) main_call0_call0_v54) addi,
    TRef.nullary (TRef.of (T := ⟨S_, .i32⟩) main_call0_call0_c_13) (constantI S_ 32 16#32),
    TRef.unary (TRef.of (T := ⟨S_, .i32⟩) main_call0_call0_c_13) (TRef.of (T := ⟨S128x100000, .i32⟩) main_call0_call0_v55) (broadcastInDim S128x100000 ![] bcast_S_S128x100000),
    TRef.binary (TRef.of (T := ⟨S128x100000, .i32⟩) main_call0_call0_v53) (TRef.of (T := ⟨S128x100000, .i32⟩) main_call0_call0_v55) (TRef.of (T := ⟨S128x100000, .i32⟩) main_call0_call0_v56) Host.shli,
    TRef.nullary (TRef.of (T := ⟨S_, .i32⟩) main_call0_call0_c_14) (constantI S_ 32 16#32),
    TRef.unary (TRef.of (T := ⟨S_, .i32⟩) main_call0_call0_c_14) (TRef.of (T := ⟨S128x100000, .i32⟩) main_call0_call0_v57) (broadcastInDim S128x100000 ![] bcast_S_S128x100000),
    TRef.binary (TRef.of (T := ⟨S128x100000, .i32⟩) main_call0_call0_v53) (TRef.of (T := ⟨S128x100000, .i32⟩) main_call0_call0_v57) (TRef.of (T := ⟨S128x100000, .i32⟩) main_call0_call0_v58) Host.shrui,
    TRef.binary (TRef.of (T := ⟨S128x100000, .i32⟩) main_call0_call0_v56) (TRef.of (T := ⟨S128x100000, .i32⟩) main_call0_call0_v58) (TRef.of (T := ⟨S128x100000, .i32⟩) main_call0_call0_v59) ori,
    TRef.binary (TRef.of (T := ⟨S128x100000, .i32⟩) main_call0_call0_v54) (TRef.of (T := ⟨S128x100000, .i32⟩) main_call0_call0_v59) (TRef.of (T := ⟨S128x100000, .i32⟩) main_call0_call0_v60) xori,
    TRef.binary (TRef.of (T := ⟨S128x100000, .i32⟩) main_call0_call0_v54) (TRef.of (T := ⟨S128x100000, .i32⟩) main_call0_call0_v60) (TRef.of (T := ⟨S128x100000, .i32⟩) main_call0_call0_v61) addi,
    TRef.nullary (TRef.of (T := ⟨S_, .i32⟩) main_call0_call0_c_15) (constantI S_ 32 24#32),
    TRef.unary (TRef.of (T := ⟨S_, .i32⟩) main_call0_call0_c_15) (TRef.of (T := ⟨S128x100000, .i32⟩) main_call0_call0_v62) (broadcastInDim S128x100000 ![] bcast_S_S128x100000),
    TRef.binary (TRef.of (T := ⟨S128x100000, .i32⟩) main_call0_call0_v60) (TRef.of (T := ⟨S128x100000, .i32⟩) main_call0_call0_v62) (TRef.of (T := ⟨S128x100000, .i32⟩) main_call0_call0_v63) Host.shli,
    TRef.nullary (TRef.of (T := ⟨S_, .i32⟩) main_call0_call0_c_16) (constantI S_ 32 8#32),
    TRef.unary (TRef.of (T := ⟨S_, .i32⟩) main_call0_call0_c_16) (TRef.of (T := ⟨S128x100000, .i32⟩) main_call0_call0_v64) (broadcastInDim S128x100000 ![] bcast_S_S128x100000),
    TRef.binary (TRef.of (T := ⟨S128x100000, .i32⟩) main_call0_call0_v60) (TRef.of (T := ⟨S128x100000, .i32⟩) main_call0_call0_v64) (TRef.of (T := ⟨S128x100000, .i32⟩) main_call0_call0_v65) Host.shrui,
    TRef.binary (TRef.of (T := ⟨S128x100000, .i32⟩) main_call0_call0_v63) (TRef.of (T := ⟨S128x100000, .i32⟩) main_call0_call0_v65) (TRef.of (T := ⟨S128x100000, .i32⟩) main_call0_call0_v66) ori,
    TRef.binary (TRef.of (T := ⟨S128x100000, .i32⟩) main_call0_call0_v61) (TRef.of (T := ⟨S128x100000, .i32⟩) main_call0_call0_v66) (TRef.of (T := ⟨S128x100000, .i32⟩) main_call0_call0_v67) xori ]

/-- @main's operations 121 … 150 of 335. -/
abbrev ops_4 : List (HloOp τ sig (Elt F)) :=
  [ TRef.unary (TRef.of (T := ⟨S_, .i32⟩) main_call0_call0_v1) (TRef.of (T := ⟨S128x100000, .i32⟩) main_call0_call0_v68) (broadcastInDim S128x100000 ![] bcast_S_S128x100000),
    TRef.binary (TRef.of (T := ⟨S128x100000, .i32⟩) main_call0_call0_v61) (TRef.of (T := ⟨S128x100000, .i32⟩) main_call0_call0_v68) (TRef.of (T := ⟨S128x100000, .i32⟩) main_call0_call0_v69) addi,
    TRef.unary (TRef.of (T := ⟨S_, .i32⟩) main_call0_v5) (TRef.of (T := ⟨S128x100000, .i32⟩) main_call0_call0_v70) (broadcastInDim S128x100000 ![] bcast_S_S128x100000),
    TRef.binary (TRef.of (T := ⟨S128x100000, .i32⟩) main_call0_call0_v67) (TRef.of (T := ⟨S128x100000, .i32⟩) main_call0_call0_v70) (TRef.of (T := ⟨S128x100000, .i32⟩) main_call0_call0_v71) addi,
    TRef.nullary (TRef.of (T := ⟨S_, .i32⟩) main_call0_call0_c_17) (constantI S_ 32 2#32),
    TRef.unary (TRef.of (T := ⟨S_, .i32⟩) main_call0_call0_c_17) (TRef.of (T := ⟨S128x100000, .i32⟩) main_call0_call0_v72) (broadcastInDim S128x100000 ![] bcast_S_S128x100000),
    TRef.binary (TRef.of (T := ⟨S128x100000, .i32⟩) main_call0_call0_v71) (TRef.of (T := ⟨S128x100000, .i32⟩) main_call0_call0_v72) (TRef.of (T := ⟨S128x100000, .i32⟩) main_call0_call0_v73) addi,
    TRef.binary (TRef.of (T := ⟨S128x100000, .i32⟩) main_call0_call0_v69) (TRef.of (T := ⟨S128x100000, .i32⟩) main_call0_call0_v73) (TRef.of (T := ⟨S128x100000, .i32⟩) main_call0_call0_v74) addi,
    TRef.nullary (TRef.of (T := ⟨S_, .i32⟩) main_call0_call0_c_18) (constantI S_ 32 13#32),
    TRef.unary (TRef.of (T := ⟨S_, .i32⟩) main_call0_call0_c_18) (TRef.of (T := ⟨S128x100000, .i32⟩) main_call0_call0_v75) (broadcastInDim S128x100000 ![] bcast_S_S128x100000),
    TRef.binary (TRef.of (T := ⟨S128x100000, .i32⟩) main_call0_call0_v73) (TRef.of (T := ⟨S128x100000, .i32⟩) main_call0_call0_v75) (TRef.of (T := ⟨S128x100000, .i32⟩) main_call0_call0_v76) Host.shli,
    TRef.nullary (TRef.of (T := ⟨S_, .i32⟩) main_call0_call0_c_19) (constantI S_ 32 19#32),
    TRef.unary (TRef.of (T := ⟨S_, .i32⟩) main_call0_call0_c_19) (TRef.of (T := ⟨S128x100000, .i32⟩) main_call0_call0_v77) (broadcastInDim S128x100000 ![] bcast_S_S128x100000),
    TRef.binary (TRef.of (T := ⟨S128x100000, .i32⟩) main_call0_call0_v73) (TRef.of (T := ⟨S128x100000, .i32⟩) main_call0_call0_v77) (TRef.of (T := ⟨S128x100000, .i32⟩) main_call0_call0_v78) Host.shrui,
    TRef.binary (TRef.of (T := ⟨S128x100000, .i32⟩) main_call0_call0_v76) (TRef.of (T := ⟨S128x100000, .i32⟩) main_call0_call0_v78) (TRef.of (T := ⟨S128x100000, .i32⟩) main_call0_call0_v79) ori,
    TRef.binary (TRef.of (T := ⟨S128x100000, .i32⟩) main_call0_call0_v74) (TRef.of (T := ⟨S128x100000, .i32⟩) main_call0_call0_v79) (TRef.of (T := ⟨S128x100000, .i32⟩) main_call0_call0_v80) xori,
    TRef.binary (TRef.of (T := ⟨S128x100000, .i32⟩) main_call0_call0_v74) (TRef.of (T := ⟨S128x100000, .i32⟩) main_call0_call0_v80) (TRef.of (T := ⟨S128x100000, .i32⟩) main_call0_call0_v81) addi,
    TRef.nullary (TRef.of (T := ⟨S_, .i32⟩) main_call0_call0_c_20) (constantI S_ 32 15#32),
    TRef.unary (TRef.of (T := ⟨S_, .i32⟩) main_call0_call0_c_20) (TRef.of (T := ⟨S128x100000, .i32⟩) main_call0_call0_v82) (broadcastInDim S128x100000 ![] bcast_S_S128x100000),
    TRef.binary (TRef.of (T := ⟨S128x100000, .i32⟩) main_call0_call0_v80) (TRef.of (T := ⟨S128x100000, .i32⟩) main_call0_call0_v82) (TRef.of (T := ⟨S128x100000, .i32⟩) main_call0_call0_v83) Host.shli,
    TRef.nullary (TRef.of (T := ⟨S_, .i32⟩) main_call0_call0_c_21) (constantI S_ 32 17#32),
    TRef.unary (TRef.of (T := ⟨S_, .i32⟩) main_call0_call0_c_21) (TRef.of (T := ⟨S128x100000, .i32⟩) main_call0_call0_v84) (broadcastInDim S128x100000 ![] bcast_S_S128x100000),
    TRef.binary (TRef.of (T := ⟨S128x100000, .i32⟩) main_call0_call0_v80) (TRef.of (T := ⟨S128x100000, .i32⟩) main_call0_call0_v84) (TRef.of (T := ⟨S128x100000, .i32⟩) main_call0_call0_v85) Host.shrui,
    TRef.binary (TRef.of (T := ⟨S128x100000, .i32⟩) main_call0_call0_v83) (TRef.of (T := ⟨S128x100000, .i32⟩) main_call0_call0_v85) (TRef.of (T := ⟨S128x100000, .i32⟩) main_call0_call0_v86) ori,
    TRef.binary (TRef.of (T := ⟨S128x100000, .i32⟩) main_call0_call0_v81) (TRef.of (T := ⟨S128x100000, .i32⟩) main_call0_call0_v86) (TRef.of (T := ⟨S128x100000, .i32⟩) main_call0_call0_v87) xori,
    TRef.binary (TRef.of (T := ⟨S128x100000, .i32⟩) main_call0_call0_v81) (TRef.of (T := ⟨S128x100000, .i32⟩) main_call0_call0_v87) (TRef.of (T := ⟨S128x100000, .i32⟩) main_call0_call0_v88) addi,
    TRef.nullary (TRef.of (T := ⟨S_, .i32⟩) main_call0_call0_c_22) (constantI S_ 32 26#32),
    TRef.unary (TRef.of (T := ⟨S_, .i32⟩) main_call0_call0_c_22) (TRef.of (T := ⟨S128x100000, .i32⟩) main_call0_call0_v89) (broadcastInDim S128x100000 ![] bcast_S_S128x100000),
    TRef.binary (TRef.of (T := ⟨S128x100000, .i32⟩) main_call0_call0_v87) (TRef.of (T := ⟨S128x100000, .i32⟩) main_call0_call0_v89) (TRef.of (T := ⟨S128x100000, .i32⟩) main_call0_call0_v90) Host.shli,
    TRef.nullary (TRef.of (T := ⟨S_, .i32⟩) main_call0_call0_c_23) (constantI S_ 32 6#32) ]

/-- @main's operations 151 … 180 of 335. -/
abbrev ops_5 : List (HloOp τ sig (Elt F)) :=
  [ TRef.unary (TRef.of (T := ⟨S_, .i32⟩) main_call0_call0_c_23) (TRef.of (T := ⟨S128x100000, .i32⟩) main_call0_call0_v91) (broadcastInDim S128x100000 ![] bcast_S_S128x100000),
    TRef.binary (TRef.of (T := ⟨S128x100000, .i32⟩) main_call0_call0_v87) (TRef.of (T := ⟨S128x100000, .i32⟩) main_call0_call0_v91) (TRef.of (T := ⟨S128x100000, .i32⟩) main_call0_call0_v92) Host.shrui,
    TRef.binary (TRef.of (T := ⟨S128x100000, .i32⟩) main_call0_call0_v90) (TRef.of (T := ⟨S128x100000, .i32⟩) main_call0_call0_v92) (TRef.of (T := ⟨S128x100000, .i32⟩) main_call0_call0_v93) ori,
    TRef.binary (TRef.of (T := ⟨S128x100000, .i32⟩) main_call0_call0_v88) (TRef.of (T := ⟨S128x100000, .i32⟩) main_call0_call0_v93) (TRef.of (T := ⟨S128x100000, .i32⟩) main_call0_call0_v94) xori,
    TRef.binary (TRef.of (T := ⟨S128x100000, .i32⟩) main_call0_call0_v88) (TRef.of (T := ⟨S128x100000, .i32⟩) main_call0_call0_v94) (TRef.of (T := ⟨S128x100000, .i32⟩) main_call0_call0_v95) addi,
    TRef.nullary (TRef.of (T := ⟨S_, .i32⟩) main_call0_call0_c_24) (constantI S_ 32 6#32),
    TRef.unary (TRef.of (T := ⟨S_, .i32⟩) main_call0_call0_c_24) (TRef.of (T := ⟨S128x100000, .i32⟩) main_call0_call0_v96) (broadcastInDim S128x100000 ![] bcast_S_S128x100000),
    TRef.binary (TRef.of (T := ⟨S128x100000, .i32⟩) main_call0_call0_v94) (TRef.of (T := ⟨S128x100000, .i32⟩) main_call0_call0_v96) (TRef.of (T := ⟨S128x100000, .i32⟩) main_call0_call0_v97) Host.shli,
    TRef.nullary (TRef.of (T := ⟨S_, .i32⟩) main_call0_call0_c_25) (constantI S_ 32 26#32),
    TRef.unary (TRef.of (T := ⟨S_, .i32⟩) main_call0_call0_c_25) (TRef.of (T := ⟨S128x100000, .i32⟩) main_call0_call0_v98) (broadcastInDim S128x100000 ![] bcast_S_S128x100000),
    TRef.binary (TRef.of (T := ⟨S128x100000, .i32⟩) main_call0_call0_v94) (TRef.of (T := ⟨S128x100000, .i32⟩) main_call0_call0_v98) (TRef.of (T := ⟨S128x100000, .i32⟩) main_call0_call0_v99) Host.shrui,
    TRef.binary (TRef.of (T := ⟨S128x100000, .i32⟩) main_call0_call0_v97) (TRef.of (T := ⟨S128x100000, .i32⟩) main_call0_call0_v99) (TRef.of (T := ⟨S128x100000, .i32⟩) main_call0_call0_v100) ori,
    TRef.binary (TRef.of (T := ⟨S128x100000, .i32⟩) main_call0_call0_v95) (TRef.of (T := ⟨S128x100000, .i32⟩) main_call0_call0_v100) (TRef.of (T := ⟨S128x100000, .i32⟩) main_call0_call0_v101) xori,
    TRef.unary (TRef.of (T := ⟨S_, .i32⟩) main_call0_v5) (TRef.of (T := ⟨S128x100000, .i32⟩) main_call0_call0_v102) (broadcastInDim S128x100000 ![] bcast_S_S128x100000),
    TRef.binary (TRef.of (T := ⟨S128x100000, .i32⟩) main_call0_call0_v95) (TRef.of (T := ⟨S128x100000, .i32⟩) main_call0_call0_v102) (TRef.of (T := ⟨S128x100000, .i32⟩) main_call0_call0_v103) addi,
    TRef.unary (TRef.of (T := ⟨S_, .i32⟩) main_call0_v7) (TRef.of (T := ⟨S128x100000, .i32⟩) main_call0_call0_v104) (broadcastInDim S128x100000 ![] bcast_S_S128x100000),
    TRef.binary (TRef.of (T := ⟨S128x100000, .i32⟩) main_call0_call0_v101) (TRef.of (T := ⟨S128x100000, .i32⟩) main_call0_call0_v104) (TRef.of (T := ⟨S128x100000, .i32⟩) main_call0_call0_v105) addi,
    TRef.nullary (TRef.of (T := ⟨S_, .i32⟩) main_call0_call0_c_26) (constantI S_ 32 3#32),
    TRef.unary (TRef.of (T := ⟨S_, .i32⟩) main_call0_call0_c_26) (TRef.of (T := ⟨S128x100000, .i32⟩) main_call0_call0_v106) (broadcastInDim S128x100000 ![] bcast_S_S128x100000),
    TRef.binary (TRef.of (T := ⟨S128x100000, .i32⟩) main_call0_call0_v105) (TRef.of (T := ⟨S128x100000, .i32⟩) main_call0_call0_v106) (TRef.of (T := ⟨S128x100000, .i32⟩) main_call0_call0_v107) addi,
    TRef.binary (TRef.of (T := ⟨S128x100000, .i32⟩) main_call0_call0_v103) (TRef.of (T := ⟨S128x100000, .i32⟩) main_call0_call0_v107) (TRef.of (T := ⟨S128x100000, .i32⟩) main_call0_call0_v108) addi,
    TRef.nullary (TRef.of (T := ⟨S_, .i32⟩) main_call0_call0_c_27) (constantI S_ 32 17#32),
    TRef.unary (TRef.of (T := ⟨S_, .i32⟩) main_call0_call0_c_27) (TRef.of (T := ⟨S128x100000, .i32⟩) main_call0_call0_v109) (broadcastInDim S128x100000 ![] bcast_S_S128x100000),
    TRef.binary (TRef.of (T := ⟨S128x100000, .i32⟩) main_call0_call0_v107) (TRef.of (T := ⟨S128x100000, .i32⟩) main_call0_call0_v109) (TRef.of (T := ⟨S128x100000, .i32⟩) main_call0_call0_v110) Host.shli,
    TRef.nullary (TRef.of (T := ⟨S_, .i32⟩) main_call0_call0_c_28) (constantI S_ 32 15#32),
    TRef.unary (TRef.of (T := ⟨S_, .i32⟩) main_call0_call0_c_28) (TRef.of (T := ⟨S128x100000, .i32⟩) main_call0_call0_v111) (broadcastInDim S128x100000 ![] bcast_S_S128x100000),
    TRef.binary (TRef.of (T := ⟨S128x100000, .i32⟩) main_call0_call0_v107) (TRef.of (T := ⟨S128x100000, .i32⟩) main_call0_call0_v111) (TRef.of (T := ⟨S128x100000, .i32⟩) main_call0_call0_v112) Host.shrui,
    TRef.binary (TRef.of (T := ⟨S128x100000, .i32⟩) main_call0_call0_v110) (TRef.of (T := ⟨S128x100000, .i32⟩) main_call0_call0_v112) (TRef.of (T := ⟨S128x100000, .i32⟩) main_call0_call0_v113) ori,
    TRef.binary (TRef.of (T := ⟨S128x100000, .i32⟩) main_call0_call0_v108) (TRef.of (T := ⟨S128x100000, .i32⟩) main_call0_call0_v113) (TRef.of (T := ⟨S128x100000, .i32⟩) main_call0_call0_v114) xori,
    TRef.binary (TRef.of (T := ⟨S128x100000, .i32⟩) main_call0_call0_v108) (TRef.of (T := ⟨S128x100000, .i32⟩) main_call0_call0_v114) (TRef.of (T := ⟨S128x100000, .i32⟩) main_call0_call0_v115) addi ]

/-- @main's operations 181 … 210 of 335. -/
abbrev ops_6 : List (HloOp τ sig (Elt F)) :=
  [ TRef.nullary (TRef.of (T := ⟨S_, .i32⟩) main_call0_call0_c_29) (constantI S_ 32 29#32),
    TRef.unary (TRef.of (T := ⟨S_, .i32⟩) main_call0_call0_c_29) (TRef.of (T := ⟨S128x100000, .i32⟩) main_call0_call0_v116) (broadcastInDim S128x100000 ![] bcast_S_S128x100000),
    TRef.binary (TRef.of (T := ⟨S128x100000, .i32⟩) main_call0_call0_v114) (TRef.of (T := ⟨S128x100000, .i32⟩) main_call0_call0_v116) (TRef.of (T := ⟨S128x100000, .i32⟩) main_call0_call0_v117) Host.shli,
    TRef.nullary (TRef.of (T := ⟨S_, .i32⟩) main_call0_call0_c_30) (constantI S_ 32 3#32),
    TRef.unary (TRef.of (T := ⟨S_, .i32⟩) main_call0_call0_c_30) (TRef.of (T := ⟨S128x100000, .i32⟩) main_call0_call0_v118) (broadcastInDim S128x100000 ![] bcast_S_S128x100000),
    TRef.binary (TRef.of (T := ⟨S128x100000, .i32⟩) main_call0_call0_v114) (TRef.of (T := ⟨S128x100000, .i32⟩) main_call0_call0_v118) (TRef.of (T := ⟨S128x100000, .i32⟩) main_call0_call0_v119) Host.shrui,
    TRef.binary (TRef.of (T := ⟨S128x100000, .i32⟩) main_call0_call0_v117) (TRef.of (T := ⟨S128x100000, .i32⟩) main_call0_call0_v119) (TRef.of (T := ⟨S128x100000, .i32⟩) main_call0_call0_v120) ori,
    TRef.binary (TRef.of (T := ⟨S128x100000, .i32⟩) main_call0_call0_v115) (TRef.of (T := ⟨S128x100000, .i32⟩) main_call0_call0_v120) (TRef.of (T := ⟨S128x100000, .i32⟩) main_call0_call0_v121) xori,
    TRef.binary (TRef.of (T := ⟨S128x100000, .i32⟩) main_call0_call0_v115) (TRef.of (T := ⟨S128x100000, .i32⟩) main_call0_call0_v121) (TRef.of (T := ⟨S128x100000, .i32⟩) main_call0_call0_v122) addi,
    TRef.nullary (TRef.of (T := ⟨S_, .i32⟩) main_call0_call0_c_31) (constantI S_ 32 16#32),
    TRef.unary (TRef.of (T := ⟨S_, .i32⟩) main_call0_call0_c_31) (TRef.of (T := ⟨S128x100000, .i32⟩) main_call0_call0_v123) (broadcastInDim S128x100000 ![] bcast_S_S128x100000),
    TRef.binary (TRef.of (T := ⟨S128x100000, .i32⟩) main_call0_call0_v121) (TRef.of (T := ⟨S128x100000, .i32⟩) main_call0_call0_v123) (TRef.of (T := ⟨S128x100000, .i32⟩) main_call0_call0_v124) Host.shli,
    TRef.nullary (TRef.of (T := ⟨S_, .i32⟩) main_call0_call0_c_32) (constantI S_ 32 16#32),
    TRef.unary (TRef.of (T := ⟨S_, .i32⟩) main_call0_call0_c_32) (TRef.of (T := ⟨S128x100000, .i32⟩) main_call0_call0_v125) (broadcastInDim S128x100000 ![] bcast_S_S128x100000),
    TRef.binary (TRef.of (T := ⟨S128x100000, .i32⟩) main_call0_call0_v121) (TRef.of (T := ⟨S128x100000, .i32⟩) main_call0_call0_v125) (TRef.of (T := ⟨S128x100000, .i32⟩) main_call0_call0_v126) Host.shrui,
    TRef.binary (TRef.of (T := ⟨S128x100000, .i32⟩) main_call0_call0_v124) (TRef.of (T := ⟨S128x100000, .i32⟩) main_call0_call0_v126) (TRef.of (T := ⟨S128x100000, .i32⟩) main_call0_call0_v127) ori,
    TRef.binary (TRef.of (T := ⟨S128x100000, .i32⟩) main_call0_call0_v122) (TRef.of (T := ⟨S128x100000, .i32⟩) main_call0_call0_v127) (TRef.of (T := ⟨S128x100000, .i32⟩) main_call0_call0_v128) xori,
    TRef.binary (TRef.of (T := ⟨S128x100000, .i32⟩) main_call0_call0_v122) (TRef.of (T := ⟨S128x100000, .i32⟩) main_call0_call0_v128) (TRef.of (T := ⟨S128x100000, .i32⟩) main_call0_call0_v129) addi,
    TRef.nullary (TRef.of (T := ⟨S_, .i32⟩) main_call0_call0_c_33) (constantI S_ 32 24#32),
    TRef.unary (TRef.of (T := ⟨S_, .i32⟩) main_call0_call0_c_33) (TRef.of (T := ⟨S128x100000, .i32⟩) main_call0_call0_v130) (broadcastInDim S128x100000 ![] bcast_S_S128x100000),
    TRef.binary (TRef.of (T := ⟨S128x100000, .i32⟩) main_call0_call0_v128) (TRef.of (T := ⟨S128x100000, .i32⟩) main_call0_call0_v130) (TRef.of (T := ⟨S128x100000, .i32⟩) main_call0_call0_v131) Host.shli,
    TRef.nullary (TRef.of (T := ⟨S_, .i32⟩) main_call0_call0_c_34) (constantI S_ 32 8#32),
    TRef.unary (TRef.of (T := ⟨S_, .i32⟩) main_call0_call0_c_34) (TRef.of (T := ⟨S128x100000, .i32⟩) main_call0_call0_v132) (broadcastInDim S128x100000 ![] bcast_S_S128x100000),
    TRef.binary (TRef.of (T := ⟨S128x100000, .i32⟩) main_call0_call0_v128) (TRef.of (T := ⟨S128x100000, .i32⟩) main_call0_call0_v132) (TRef.of (T := ⟨S128x100000, .i32⟩) main_call0_call0_v133) Host.shrui,
    TRef.binary (TRef.of (T := ⟨S128x100000, .i32⟩) main_call0_call0_v131) (TRef.of (T := ⟨S128x100000, .i32⟩) main_call0_call0_v133) (TRef.of (T := ⟨S128x100000, .i32⟩) main_call0_call0_v134) ori,
    TRef.binary (TRef.of (T := ⟨S128x100000, .i32⟩) main_call0_call0_v129) (TRef.of (T := ⟨S128x100000, .i32⟩) main_call0_call0_v134) (TRef.of (T := ⟨S128x100000, .i32⟩) main_call0_call0_v135) xori,
    TRef.unary (TRef.of (T := ⟨S_, .i32⟩) main_call0_v7) (TRef.of (T := ⟨S128x100000, .i32⟩) main_call0_call0_v136) (broadcastInDim S128x100000 ![] bcast_S_S128x100000),
    TRef.binary (TRef.of (T := ⟨S128x100000, .i32⟩) main_call0_call0_v129) (TRef.of (T := ⟨S128x100000, .i32⟩) main_call0_call0_v136) (TRef.of (T := ⟨S128x100000, .i32⟩) main_call0_call0_v137) addi,
    TRef.unary (TRef.of (T := ⟨S_, .i32⟩) main_call0_call0_v1) (TRef.of (T := ⟨S128x100000, .i32⟩) main_call0_call0_v138) (broadcastInDim S128x100000 ![] bcast_S_S128x100000),
    TRef.binary (TRef.of (T := ⟨S128x100000, .i32⟩) main_call0_call0_v135) (TRef.of (T := ⟨S128x100000, .i32⟩) main_call0_call0_v138) (TRef.of (T := ⟨S128x100000, .i32⟩) main_call0_call0_v139) addi ]

/-- @main's operations 211 … 240 of 335. -/
abbrev ops_7 : List (HloOp τ sig (Elt F)) :=
  [ TRef.nullary (TRef.of (T := ⟨S_, .i32⟩) main_call0_call0_c_35) (constantI S_ 32 4#32),
    TRef.unary (TRef.of (T := ⟨S_, .i32⟩) main_call0_call0_c_35) (TRef.of (T := ⟨S128x100000, .i32⟩) main_call0_call0_v140) (broadcastInDim S128x100000 ![] bcast_S_S128x100000),
    TRef.binary (TRef.of (T := ⟨S128x100000, .i32⟩) main_call0_call0_v139) (TRef.of (T := ⟨S128x100000, .i32⟩) main_call0_call0_v140) (TRef.of (T := ⟨S128x100000, .i32⟩) main_call0_call0_v141) addi,
    TRef.binary (TRef.of (T := ⟨S128x100000, .i32⟩) main_call0_call0_v137) (TRef.of (T := ⟨S128x100000, .i32⟩) main_call0_call0_v141) (TRef.of (T := ⟨S128x100000, .i32⟩) main_call0_call0_v142) addi,
    TRef.nullary (TRef.of (T := ⟨S_, .i32⟩) main_call0_call0_c_36) (constantI S_ 32 13#32),
    TRef.unary (TRef.of (T := ⟨S_, .i32⟩) main_call0_call0_c_36) (TRef.of (T := ⟨S128x100000, .i32⟩) main_call0_call0_v143) (broadcastInDim S128x100000 ![] bcast_S_S128x100000),
    TRef.binary (TRef.of (T := ⟨S128x100000, .i32⟩) main_call0_call0_v141) (TRef.of (T := ⟨S128x100000, .i32⟩) main_call0_call0_v143) (TRef.of (T := ⟨S128x100000, .i32⟩) main_call0_call0_v144) Host.shli,
    TRef.nullary (TRef.of (T := ⟨S_, .i32⟩) main_call0_call0_c_37) (constantI S_ 32 19#32),
    TRef.unary (TRef.of (T := ⟨S_, .i32⟩) main_call0_call0_c_37) (TRef.of (T := ⟨S128x100000, .i32⟩) main_call0_call0_v145) (broadcastInDim S128x100000 ![] bcast_S_S128x100000),
    TRef.binary (TRef.of (T := ⟨S128x100000, .i32⟩) main_call0_call0_v141) (TRef.of (T := ⟨S128x100000, .i32⟩) main_call0_call0_v145) (TRef.of (T := ⟨S128x100000, .i32⟩) main_call0_call0_v146) Host.shrui,
    TRef.binary (TRef.of (T := ⟨S128x100000, .i32⟩) main_call0_call0_v144) (TRef.of (T := ⟨S128x100000, .i32⟩) main_call0_call0_v146) (TRef.of (T := ⟨S128x100000, .i32⟩) main_call0_call0_v147) ori,
    TRef.binary (TRef.of (T := ⟨S128x100000, .i32⟩) main_call0_call0_v142) (TRef.of (T := ⟨S128x100000, .i32⟩) main_call0_call0_v147) (TRef.of (T := ⟨S128x100000, .i32⟩) main_call0_call0_v148) xori,
    TRef.binary (TRef.of (T := ⟨S128x100000, .i32⟩) main_call0_call0_v142) (TRef.of (T := ⟨S128x100000, .i32⟩) main_call0_call0_v148) (TRef.of (T := ⟨S128x100000, .i32⟩) main_call0_call0_v149) addi,
    TRef.nullary (TRef.of (T := ⟨S_, .i32⟩) main_call0_call0_c_38) (constantI S_ 32 15#32),
    TRef.unary (TRef.of (T := ⟨S_, .i32⟩) main_call0_call0_c_38) (TRef.of (T := ⟨S128x100000, .i32⟩) main_call0_call0_v150) (broadcastInDim S128x100000 ![] bcast_S_S128x100000),
    TRef.binary (TRef.of (T := ⟨S128x100000, .i32⟩) main_call0_call0_v148) (TRef.of (T := ⟨S128x100000, .i32⟩) main_call0_call0_v150) (TRef.of (T := ⟨S128x100000, .i32⟩) main_call0_call0_v151) Host.shli,
    TRef.nullary (TRef.of (T := ⟨S_, .i32⟩) main_call0_call0_c_39) (constantI S_ 32 17#32),
    TRef.unary (TRef.of (T := ⟨S_, .i32⟩) main_call0_call0_c_39) (TRef.of (T := ⟨S128x100000, .i32⟩) main_call0_call0_v152) (broadcastInDim S128x100000 ![] bcast_S_S128x100000),
    TRef.binary (TRef.of (T := ⟨S128x100000, .i32⟩) main_call0_call0_v148) (TRef.of (T := ⟨S128x100000, .i32⟩) main_call0_call0_v152) (TRef.of (T := ⟨S128x100000, .i32⟩) main_call0_call0_v153) Host.shrui,
    TRef.binary (TRef.of (T := ⟨S128x100000, .i32⟩) main_call0_call0_v151) (TRef.of (T := ⟨S128x100000, .i32⟩) main_call0_call0_v153) (TRef.of (T := ⟨S128x100000, .i32⟩) main_call0_call0_v154) ori,
    TRef.binary (TRef.of (T := ⟨S128x100000, .i32⟩) main_call0_call0_v149) (TRef.of (T := ⟨S128x100000, .i32⟩) main_call0_call0_v154) (TRef.of (T := ⟨S128x100000, .i32⟩) main_call0_call0_v155) xori,
    TRef.binary (TRef.of (T := ⟨S128x100000, .i32⟩) main_call0_call0_v149) (TRef.of (T := ⟨S128x100000, .i32⟩) main_call0_call0_v155) (TRef.of (T := ⟨S128x100000, .i32⟩) main_call0_call0_v156) addi,
    TRef.nullary (TRef.of (T := ⟨S_, .i32⟩) main_call0_call0_c_40) (constantI S_ 32 26#32),
    TRef.unary (TRef.of (T := ⟨S_, .i32⟩) main_call0_call0_c_40) (TRef.of (T := ⟨S128x100000, .i32⟩) main_call0_call0_v157) (broadcastInDim S128x100000 ![] bcast_S_S128x100000),
    TRef.binary (TRef.of (T := ⟨S128x100000, .i32⟩) main_call0_call0_v155) (TRef.of (T := ⟨S128x100000, .i32⟩) main_call0_call0_v157) (TRef.of (T := ⟨S128x100000, .i32⟩) main_call0_call0_v158) Host.shli,
    TRef.nullary (TRef.of (T := ⟨S_, .i32⟩) main_call0_call0_c_41) (constantI S_ 32 6#32),
    TRef.unary (TRef.of (T := ⟨S_, .i32⟩) main_call0_call0_c_41) (TRef.of (T := ⟨S128x100000, .i32⟩) main_call0_call0_v159) (broadcastInDim S128x100000 ![] bcast_S_S128x100000),
    TRef.binary (TRef.of (T := ⟨S128x100000, .i32⟩) main_call0_call0_v155) (TRef.of (T := ⟨S128x100000, .i32⟩) main_call0_call0_v159) (TRef.of (T := ⟨S128x100000, .i32⟩) main_call0_call0_v160) Host.shrui,
    TRef.binary (TRef.of (T := ⟨S128x100000, .i32⟩) main_call0_call0_v158) (TRef.of (T := ⟨S128x100000, .i32⟩) main_call0_call0_v160) (TRef.of (T := ⟨S128x100000, .i32⟩) main_call0_call0_v161) ori,
    TRef.binary (TRef.of (T := ⟨S128x100000, .i32⟩) main_call0_call0_v156) (TRef.of (T := ⟨S128x100000, .i32⟩) main_call0_call0_v161) (TRef.of (T := ⟨S128x100000, .i32⟩) main_call0_call0_v162) xori ]

/-- @main's operations 241 … 270 of 335. -/
abbrev ops_8 : List (HloOp τ sig (Elt F)) :=
  [ TRef.binary (TRef.of (T := ⟨S128x100000, .i32⟩) main_call0_call0_v156) (TRef.of (T := ⟨S128x100000, .i32⟩) main_call0_call0_v162) (TRef.of (T := ⟨S128x100000, .i32⟩) main_call0_call0_v163) addi,
    TRef.nullary (TRef.of (T := ⟨S_, .i32⟩) main_call0_call0_c_42) (constantI S_ 32 6#32),
    TRef.unary (TRef.of (T := ⟨S_, .i32⟩) main_call0_call0_c_42) (TRef.of (T := ⟨S128x100000, .i32⟩) main_call0_call0_v164) (broadcastInDim S128x100000 ![] bcast_S_S128x100000),
    TRef.binary (TRef.of (T := ⟨S128x100000, .i32⟩) main_call0_call0_v162) (TRef.of (T := ⟨S128x100000, .i32⟩) main_call0_call0_v164) (TRef.of (T := ⟨S128x100000, .i32⟩) main_call0_call0_v165) Host.shli,
    TRef.nullary (TRef.of (T := ⟨S_, .i32⟩) main_call0_call0_c_43) (constantI S_ 32 26#32),
    TRef.unary (TRef.of (T := ⟨S_, .i32⟩) main_call0_call0_c_43) (TRef.of (T := ⟨S128x100000, .i32⟩) main_call0_call0_v166) (broadcastInDim S128x100000 ![] bcast_S_S128x100000),
    TRef.binary (TRef.of (T := ⟨S128x100000, .i32⟩) main_call0_call0_v162) (TRef.of (T := ⟨S128x100000, .i32⟩) main_call0_call0_v166) (TRef.of (T := ⟨S128x100000, .i32⟩) main_call0_call0_v167) Host.shrui,
    TRef.binary (TRef.of (T := ⟨S128x100000, .i32⟩) main_call0_call0_v165) (TRef.of (T := ⟨S128x100000, .i32⟩) main_call0_call0_v167) (TRef.of (T := ⟨S128x100000, .i32⟩) main_call0_call0_v168) ori,
    TRef.binary (TRef.of (T := ⟨S128x100000, .i32⟩) main_call0_call0_v163) (TRef.of (T := ⟨S128x100000, .i32⟩) main_call0_call0_v168) (TRef.of (T := ⟨S128x100000, .i32⟩) main_call0_call0_v169) xori,
    TRef.unary (TRef.of (T := ⟨S_, .i32⟩) main_call0_call0_v1) (TRef.of (T := ⟨S128x100000, .i32⟩) main_call0_call0_v170) (broadcastInDim S128x100000 ![] bcast_S_S128x100000),
    TRef.binary (TRef.of (T := ⟨S128x100000, .i32⟩) main_call0_call0_v163) (TRef.of (T := ⟨S128x100000, .i32⟩) main_call0_call0_v170) (TRef.of (T := ⟨S128x100000, .i32⟩) main_call0_v19_0) addi,
    TRef.unary (TRef.of (T := ⟨S_, .i32⟩) main_call0_v5) (TRef.of (T := ⟨S128x100000, .i32⟩) main_call0_call0_v172) (broadcastInDim S128x100000 ![] bcast_S_S128x100000),
    TRef.binary (TRef.of (T := ⟨S128x100000, .i32⟩) main_call0_call0_v169) (TRef.of (T := ⟨S128x100000, .i32⟩) main_call0_call0_v172) (TRef.of (T := ⟨S128x100000, .i32⟩) main_call0_call0_v173) addi,
    TRef.nullary (TRef.of (T := ⟨S_, .i32⟩) main_call0_call0_c_44) (constantI S_ 32 5#32),
    TRef.unary (TRef.of (T := ⟨S_, .i32⟩) main_call0_call0_c_44) (TRef.of (T := ⟨S128x100000, .i32⟩) main_call0_call0_v174) (broadcastInDim S128x100000 ![] bcast_S_S128x100000),
    TRef.binary (TRef.of (T := ⟨S128x100000, .i32⟩) main_call0_call0_v173) (TRef.of (T := ⟨S128x100000, .i32⟩) main_call0_call0_v174) (TRef.of (T := ⟨S128x100000, .i32⟩) main_call0_v19_1) addi,
    TRef.binary (TRef.of (T := ⟨S128x100000, .i32⟩) main_call0_v19_0) (TRef.of (T := ⟨S128x100000, .i32⟩) main_call0_v19_1) (TRef.of (T := ⟨S128x100000, .i32⟩) main_call0_v20) xori,
    TRef.nullary (TRef.of (T := ⟨S_, .i32⟩) main_call0_c_2) (constantI S_ 32 9#32),
    TRef.unary (TRef.of (T := ⟨S_, .i32⟩) main_call0_c_2) (TRef.of (T := ⟨S128x100000, .i32⟩) main_call0_v21) (broadcastInDim S128x100000 ![] bcast_S_S128x100000),
    TRef.binary (TRef.of (T := ⟨S128x100000, .i32⟩) main_call0_v20) (TRef.of (T := ⟨S128x100000, .i32⟩) main_call0_v21) (TRef.of (T := ⟨S128x100000, .i32⟩) main_call0_v22) Host.shrui,
    TRef.nullary (TRef.of (T := ⟨S_, .i32⟩) main_call0_c_3) (constantI S_ 32 1065353216#32),
    TRef.unary (TRef.of (T := ⟨S_, .i32⟩) main_call0_c_3) (TRef.of (T := ⟨S128x100000, .i32⟩) main_call0_v23) (broadcastInDim S128x100000 ![] bcast_S_S128x100000),
    TRef.binary (TRef.of (T := ⟨S128x100000, .i32⟩) main_call0_v22) (TRef.of (T := ⟨S128x100000, .i32⟩) main_call0_v23) (TRef.of (T := ⟨S128x100000, .i32⟩) main_call0_v24) ori,
    TRef.unary (TRef.of (T := ⟨S128x100000, .i32⟩) main_call0_v24) (TRef.of (T := ⟨S128x100000, .f32⟩) main_call0_v25) (bitcastToFloat (F := F) .f32),
    TRef.nullary (TRef.of (T := ⟨S_, .f32⟩) main_call0_cst) (constant S_ .f32 0x3F800000#32),
    TRef.unary (TRef.of (T := ⟨S_, .f32⟩) main_call0_cst) (TRef.of (T := ⟨S128x100000, .f32⟩) main_call0_v26) (broadcastInDim S128x100000 ![] bcast_S_S128x100000),
    TRef.binary (TRef.of (T := ⟨S128x100000, .f32⟩) main_call0_v25) (TRef.of (T := ⟨S128x100000, .f32⟩) main_call0_v26) (TRef.of (T := ⟨S128x100000, .f32⟩) main_call0_v27) subf,
    TRef.binary (TRef.of (T := ⟨S1x1, .f32⟩) main_call0_v3) (TRef.of (T := ⟨S1x1, .f32⟩) main_call0_v2) (TRef.of (T := ⟨S1x1, .f32⟩) main_call0_v28) subf,
    TRef.unary (TRef.of (T := ⟨S1x1, .f32⟩) main_call0_v28) (TRef.of (T := ⟨S128x100000, .f32⟩) main_call0_v29) (broadcastInDim S128x100000 ![0, 1] bcast_S1x1_S128x100000_0_1),
    TRef.binary (TRef.of (T := ⟨S128x100000, .f32⟩) main_call0_v27) (TRef.of (T := ⟨S128x100000, .f32⟩) main_call0_v29) (TRef.of (T := ⟨S128x100000, .f32⟩) main_call0_v30) mulf ]

/-- @main's operations 271 … 300 of 335. -/
abbrev ops_9 : List (HloOp τ sig (Elt F)) :=
  [ TRef.unary (TRef.of (T := ⟨S1x1, .f32⟩) main_call0_v2) (TRef.of (T := ⟨S128x100000, .f32⟩) main_call0_v31) (broadcastInDim S128x100000 ![0, 1] bcast_S1x1_S128x100000_0_1),
    TRef.binary (TRef.of (T := ⟨S128x100000, .f32⟩) main_call0_v30) (TRef.of (T := ⟨S128x100000, .f32⟩) main_call0_v31) (TRef.of (T := ⟨S128x100000, .f32⟩) main_call0_v32) addf,
    TRef.unary (TRef.of (T := ⟨S1x1, .f32⟩) main_call0_v2) (TRef.of (T := ⟨S128x100000, .f32⟩) main_call0_v33) (broadcastInDim S128x100000 ![0, 1] bcast_S1x1_S128x100000_0_1),
    TRef.binary (TRef.of (T := ⟨S128x100000, .f32⟩) main_call0_v33) (TRef.of (T := ⟨S128x100000, .f32⟩) main_call0_v32) (TRef.of (T := ⟨S128x100000, .f32⟩) main_v7) maximumf,
    nullary main_cst_3 (constant S_ .f32 0x00800000#32),
    unary main_cst_3 main_v8 (broadcastInDim S128x100000 ![] bcast_S_S128x100000 : (⟨S_, .f32⟩ : BufTy).Contents (Elt F) → (⟨S128x100000, .f32⟩ : BufTy).Contents (Elt F)),
    binary main_v7 main_v8 main_v9 (addf : (⟨S128x100000, .f32⟩ : BufTy).Contents (Elt F) → (⟨S128x100000, .f32⟩ : BufTy).Contents (Elt F) → (⟨S128x100000, .f32⟩ : BufTy).Contents (Elt F)),
    unary main_v9 main_v10 (Host.log : (⟨S128x100000, .f32⟩ : BufTy).Contents (Elt F) → (⟨S128x100000, .f32⟩ : BufTy).Contents (Elt F)),
    unary main_v10 main_v11 (Host.negf : (⟨S128x100000, .f32⟩ : BufTy).Contents (Elt F) → (⟨S128x100000, .f32⟩ : BufTy).Contents (Elt F)),
    unary main_v11 main_v12 (Host.log : (⟨S128x100000, .f32⟩ : BufTy).Contents (Elt F) → (⟨S128x100000, .f32⟩ : BufTy).Contents (Elt F)),
    unary main_v12 main_v13 (Host.negf : (⟨S128x100000, .f32⟩ : BufTy).Contents (Elt F) → (⟨S128x100000, .f32⟩ : BufTy).Contents (Elt F)),
    binary main_v13 main_arg0 main_v14 (addf : (⟨S128x100000, .f32⟩ : BufTy).Contents (Elt F) → (⟨S128x100000, .f32⟩ : BufTy).Contents (Elt F) → (⟨S128x100000, .f32⟩ : BufTy).Contents (Elt F)),
    TRef.nullary (TRef.of (T := ⟨S128x100000, .i32⟩) main_call1_v0) (iotaInDim S128x100000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S128x100000, .f32⟩) main_v14) (TRef.of (T := ⟨S128x100000, .i32⟩) main_call1_v0) (TRef.of (T := ⟨S_, .f32⟩) main_call1_cst) (TRef.of (T := ⟨S_, .i32⟩) main_call1_c) (TRef.of (T := ⟨S128, .f32⟩) main_call1_v1_0) (fun x y u v j => (Host.argReduce reducer_argmax_f32_i32 x y u v reducesTo_S128x100000_S128_d1 h_S_ j).1),
    TRef.quaternary (TRef.of (T := ⟨S128x100000, .f32⟩) main_v14) (TRef.of (T := ⟨S128x100000, .i32⟩) main_call1_v0) (TRef.of (T := ⟨S_, .f32⟩) main_call1_cst) (TRef.of (T := ⟨S_, .i32⟩) main_call1_c) (TRef.of (T := ⟨S128, .i32⟩) main_v15) (fun x y u v j => (Host.argReduce reducer_argmax_f32_i32 x y u v reducesTo_S128x100000_S128_d1 h_S_ j).2),
    TRef.unary (TRef.of (T := ⟨S128, .i32⟩) main_v15) (TRef.of (T := ⟨S128x1, .i32⟩) main_call2_v0) (broadcastInDim S128x1 ![0] bcast_S128_S128x1_0),
    TRef.nullary (TRef.of (T := ⟨S1x100000, .i32⟩) main_call2_v1) (iotaInDim S1x100000 32 1),
    TRef.unary (TRef.of (T := ⟨S128x1, .i32⟩) main_call2_v0) (TRef.of (T := ⟨S128x100000, .i32⟩) main_call2_v2) (broadcastInDim S128x100000 ![0, 1] bcast_S128x1_S128x100000_0_1),
    TRef.unary (TRef.of (T := ⟨S1x100000, .i32⟩) main_call2_v1) (TRef.of (T := ⟨S128x100000, .i32⟩) main_call2_v3) (broadcastInDim S128x100000 ![0, 1] bcast_S1x100000_S128x100000_0_1),
    TRef.binary (TRef.of (T := ⟨S128x100000, .i32⟩) main_call2_v2) (TRef.of (T := ⟨S128x100000, .i32⟩) main_call2_v3) (TRef.of (T := ⟨S128x100000, .i1⟩) main_call2_v4) (cmpi .eq),
    TRef.unary (TRef.of (T := ⟨S128x100000, .i1⟩) main_call2_v4) (TRef.of (T := ⟨S128x100000, .f32⟩) main_v16) (uitofp .f32),
    TRef.nullary (TRef.of (T := ⟨S_, .f32⟩) main_call3_cst) (constant S_ .f32 0xFF800000#32),
    TRef.binary (TRef.of (T := ⟨S128x100000, .f32⟩) main_arg0) (TRef.of (T := ⟨S_, .f32⟩) main_call3_cst) (TRef.of (T := ⟨S128, .f32⟩) main_call3_v0) (fun x v => Host.reduce FloatOps.maximumf x v reducesTo_S128x100000_S128_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S128, .f32⟩) main_call3_v1) (broadcastInDim S128 ![] bcast_S_S128),
    TRef.binary (TRef.of (T := ⟨S128, .f32⟩) main_call3_v1) (TRef.of (T := ⟨S128, .f32⟩) main_call3_v0) (TRef.of (T := ⟨S128, .f32⟩) main_call3_v2) maximumf,
    TRef.unary (TRef.of (T := ⟨S128, .f32⟩) main_call3_v2) (TRef.of (T := ⟨S128x1, .f32⟩) main_call3_v3) (broadcastInDim S128x1 ![0] bcast_S128_S128x1_0),
    TRef.unary (TRef.of (T := ⟨S128x1, .f32⟩) main_call3_v3) (TRef.of (T := ⟨S128x100000, .f32⟩) main_call3_v4) (broadcastInDim S128x100000 ![0, 1] bcast_S128x1_S128x100000_0_1) ]

/-- @main's operations 301 … 330 of 335. -/
abbrev ops_10 : List (HloOp τ sig (Elt F)) :=
  [ TRef.binary (TRef.of (T := ⟨S128x100000, .f32⟩) main_arg0) (TRef.of (T := ⟨S128x100000, .f32⟩) main_call3_v4) (TRef.of (T := ⟨S128x100000, .f32⟩) main_call3_v5) subf,
    TRef.unary (TRef.of (T := ⟨S128x100000, .f32⟩) main_call3_v5) (TRef.of (T := ⟨S128x100000, .f32⟩) main_call3_v6) Host.exp,
    TRef.nullary (TRef.of (T := ⟨S_, .f32⟩) main_call3_cst_1) (constant S_ .f32 0x00000000#32),
    TRef.binary (TRef.of (T := ⟨S128x100000, .f32⟩) main_call3_v6) (TRef.of (T := ⟨S_, .f32⟩) main_call3_cst_1) (TRef.of (T := ⟨S128, .f32⟩) main_call3_v7) (fun x v => Host.reduceAdd x v reducesTo_S128x100000_S128_d1 h_S_),
    TRef.unary (TRef.of (T := ⟨S128, .f32⟩) main_call3_v7) (TRef.of (T := ⟨S128x1, .f32⟩) main_call3_v8) (broadcastInDim S128x1 ![0] bcast_S128_S128x1_0),
    TRef.unary (TRef.of (T := ⟨S128x1, .f32⟩) main_call3_v8) (TRef.of (T := ⟨S128x1, .f32⟩) main_call3_v9) Host.log,
    TRef.unary (TRef.of (T := ⟨S128x1, .f32⟩) main_call3_v9) (TRef.of (T := ⟨S128x100000, .f32⟩) main_call3_v10) (broadcastInDim S128x100000 ![0, 1] bcast_S128x1_S128x100000_0_1),
    TRef.binary (TRef.of (T := ⟨S128x100000, .f32⟩) main_call3_v5) (TRef.of (T := ⟨S128x100000, .f32⟩) main_call3_v10) (TRef.of (T := ⟨S128x100000, .f32⟩) main_v17) subf,
    binary main_v16 main_v17 main_v18 (mulf : (⟨S128x100000, .f32⟩ : BufTy).Contents (Elt F) → (⟨S128x100000, .f32⟩ : BufTy).Contents (Elt F) → (⟨S128x100000, .f32⟩ : BufTy).Contents (Elt F)),
    nullary main_cst_4 (constant S_ .f32 0x00000000#32),
    binary main_v18 main_cst_4 main_v19 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S128, .i32⟩) main_call4_v0) (broadcastInDim S128 ![] bcast_S_S128),
    TRef.binary (TRef.of (T := ⟨S128, .i32⟩) main_v15) (TRef.of (T := ⟨S128, .i32⟩) main_call4_v0) (TRef.of (T := ⟨S128, .i1⟩) main_call4_v1) (cmpi .slt),
    TRef.nullary (TRef.of (T := ⟨S_, .i32⟩) main_call4_c_0) (constantI S_ 32 100000#32),
    TRef.unary (TRef.of (T := ⟨S_, .i32⟩) main_call4_c_0) (TRef.of (T := ⟨S128, .i32⟩) main_call4_v2) (broadcastInDim S128 ![] bcast_S_S128),
    TRef.binary (TRef.of (T := ⟨S128, .i32⟩) main_v15) (TRef.of (T := ⟨S128, .i32⟩) main_call4_v2) (TRef.of (T := ⟨S128, .i32⟩) main_call4_v3) addi,
    TRef.ternary (TRef.of (T := ⟨S128, .i1⟩) main_call4_v1) (TRef.of (T := ⟨S128, .i32⟩) main_call4_v3) (TRef.of (T := ⟨S128, .i32⟩) main_v15) (TRef.of (T := ⟨S128, .i32⟩) main_call4_v4) select,
    TRef.unary (TRef.of (T := ⟨S128, .i32⟩) main_call4_v4) (TRef.of (T := ⟨S128x1, .i32⟩) main_call4_v5) (broadcastInDim S128x1 ![0] bcast_S128_S128x1_0),
    TRef.nullary (TRef.of (T := ⟨S1, .i32⟩) main_call4_c_1) (constantI S1 32 99999#32),
    TRef.nullary (TRef.of (T := ⟨S_, .i32⟩) main_call4_c_2) (constantI S_ 32 0#32),
    TRef.unary (TRef.of (T := ⟨S_, .i32⟩) main_call4_c_2) (TRef.of (T := ⟨S128x1, .i32⟩) main_call4_v6) (broadcastInDim S128x1 ![] bcast_S_S128x1),
    TRef.binary (TRef.of (T := ⟨S128x1, .i32⟩) main_call4_v5) (TRef.of (T := ⟨S128x1, .i32⟩) main_call4_v6) (TRef.of (T := ⟨S128x1, .i1⟩) main_call4_v7) (cmpi .sge),
    TRef.unary (TRef.of (T := ⟨S1, .i32⟩) main_call4_c_1) (TRef.of (T := ⟨S1x1, .i32⟩) main_call4_v8) (broadcastInDim S1x1 ![1] bcast_S1_S1x1_1),
    TRef.unary (TRef.of (T := ⟨S1x1, .i32⟩) main_call4_v8) (TRef.of (T := ⟨S128x1, .i32⟩) main_call4_v9) (broadcastInDim S128x1 ![0, 1] bcast_S1x1_S128x1_0_1),
    TRef.binary (TRef.of (T := ⟨S128x1, .i32⟩) main_call4_v5) (TRef.of (T := ⟨S128x1, .i32⟩) main_call4_v9) (TRef.of (T := ⟨S128x1, .i1⟩) main_call4_v10) (cmpi .sle),
    TRef.binary (TRef.of (T := ⟨S128x1, .i1⟩) main_call4_v7) (TRef.of (T := ⟨S128x1, .i1⟩) main_call4_v10) (TRef.of (T := ⟨S128x1, .i1⟩) main_call4_v11) andi,
    TRef.nullary (TRef.of (T := ⟨S_, .i1⟩) main_call4_c_3) (constantI S_ 1 1#1),
    TRef.binary (TRef.of (T := ⟨S128x1, .i1⟩) main_call4_v11) (TRef.of (T := ⟨S_, .i1⟩) main_call4_c_3) (TRef.of (T := ⟨S128, .i1⟩) main_call4_v12) (fun x v => Host.reduce IntOp.andi x v reducesTo_S128x1_S128_d1 h_S_),
    TRef.binary (TRef.of (T := ⟨S100000, .i32⟩) main_arg1) (TRef.of (T := ⟨S128x1, .i32⟩) main_call4_v5) (TRef.of (T := ⟨S128, .i32⟩) main_call4_v13) (fun x i => Host.gather gather_S100000_S128x1_S128_n_0_n_n_0_1_1 x i) ]

/-- @main's operations 331 … 335 of 335. -/
abbrev ops_11 : List (HloOp τ sig (Elt F)) :=
  [ TRef.nullary (TRef.of (T := ⟨S_, .i32⟩) main_call4_c_4) (constantI S_ 32 2147483648#32),
    TRef.unary (TRef.of (T := ⟨S_, .i32⟩) main_call4_c_4) (TRef.of (T := ⟨S128, .i32⟩) main_call4_v14) (broadcastInDim S128 ![] bcast_S_S128),
    TRef.ternary (TRef.of (T := ⟨S128, .i1⟩) main_call4_v12) (TRef.of (T := ⟨S128, .i32⟩) main_call4_v13) (TRef.of (T := ⟨S128, .i32⟩) main_call4_v14) (TRef.of (T := ⟨S128, .i32⟩) main_v20) select,
    reshape main_v19 main_v21 (rfl : (.f32 : EltTy) = .f32) shapeCasts_S128_S128x1,
    reshape main_v20 main_v22 (rfl : (.i32 : EltTy) = .i32) shapeCasts_S128_S128x1 ]

/-- @main's 335 operations, in order (a called function's operations stand in its call's place, spelt `TRef.…`). -/
abbrev ops : List (HloOp τ sig (Elt F)) :=
  ops_0 ++ (ops_1 ++ (ops_2 ++ (ops_3 ++ (ops_4 ++ (ops_5 ++ (ops_6 ++ (ops_7 ++ (ops_8 ++ (ops_9 ++ (ops_10 ++ (ops_11)))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_0_sub : (ops_0 : List (HloOp τ sig (Elt F))).Forall fun op => op.bufs ⊆ tcRefs τ sig :=
  ⟨nullary_bufs_sub .., nullary_bufs_sub .., binary_bufs_sub .., unary_bufs_sub .., unary_bufs_sub .., nullary_bufs_sub .., binary_bufs_sub .., unary_bufs_sub .., unary_bufs_sub .., binary_bufs_sub .., nullary_bufs_sub .., nullary_bufs_sub .., unary_bufs_sub .., unary_bufs_sub .., unary_bufs_sub .., unary_bufs_sub .., unary_bufs_sub .., reshape_bufs_sub .., unary_bufs_sub .., reshape_bufs_sub .., nullary_bufs_sub .., nullary_bufs_sub .., nullary_bufs_sub .., unary_bufs_sub .., binary_bufs_sub .., nullary_bufs_sub .., unary_bufs_sub .., binary_bufs_sub .., binary_bufs_sub .., nullary_bufs_sub ..⟩
set_option maxRecDepth 8192 in
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_1_sub : (ops_1 : List (HloOp τ sig (Elt F))).Forall fun op => op.bufs ⊆ tcRefs τ sig :=
  ⟨unary_bufs_sub .., binary_bufs_sub .., unary_bufs_sub .., unary_bufs_sub .., binary_bufs_sub .., nullary_bufs_sub .., binary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_2_sub : (ops_2 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_3_sub : (ops_3 : List (HloOp τ sig (Elt F))).Forall fun op => op.bufs ⊆ tcRefs τ sig :=
  ⟨binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_4_sub : (ops_4 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub ..⟩
set_option maxRecDepth 8192 in
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_5_sub : (ops_5 : List (HloOp τ sig (Elt F))).Forall fun op => op.bufs ⊆ tcRefs τ sig :=
  ⟨unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub ..⟩
set_option maxRecDepth 8192 in
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_6_sub : (ops_6 : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub ..⟩
set_option maxRecDepth 8192 in
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_7_sub : (ops_7 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub .., binary_bufs_sub ..⟩
set_option maxRecDepth 8192 in
theorem ops_7_fresh : (ops_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_8_sub : (ops_8 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub .., binary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., unary_bufs_sub .., binary_bufs_sub ..⟩
set_option maxRecDepth 8192 in
theorem ops_8_fresh : (ops_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_9_sub : (ops_9 : List (HloOp τ sig (Elt F))).Forall fun op => op.bufs ⊆ tcRefs τ sig :=
  ⟨unary_bufs_sub .., binary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub ..⟩
set_option maxRecDepth 8192 in
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_10_sub : (ops_10 : List (HloOp τ sig (Elt F))).Forall fun op => op.bufs ⊆ tcRefs τ sig :=
  ⟨binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub ..⟩
set_option maxRecDepth 8192 in
theorem ops_10_fresh : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_11_sub : (ops_11 : List (HloOp τ sig (Elt F))).Forall fun op => op.bufs ⊆ tcRefs τ sig :=
  ⟨nullary_bufs_sub .., unary_bufs_sub .., ternary_bufs_sub .., reshape_bufs_sub .., reshape_bufs_sub ..⟩
set_option maxRecDepth 8192 in
theorem ops_11_fresh : (ops_11 : List (HloOp τ sig (Elt F))).Forall fun op => op.fresh = ∅ :=
  ⟨rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h, List.forall_iff_forall_mem.mp ops_11_sub op h]
theorem ops_fresh : ∀ op ∈ (ops : List (HloOp τ sig (Elt F))), op.fresh = ∅ := fun op h => by
    simp only [ops, List.mem_append] at h
    rcases h with h | h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h, List.forall_iff_forall_mem.mp ops_11_fresh op h]

end Cert.ReferenceIdeal.Value

end
-- ==== Proof.RefTerms.lean ====
module

public import proofs.«01_k».proof.Proof.RefOps

@[expose] public section

set_option Elab.async false

/-! ## The values that the reference's buffers end with, by name -/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
set_option maxRecDepth 8192 in
/-- `main_c`'s composed term of the arguments (named: it is used 2 times). -/
def res_main_c (V0 : Valuation τ sig (Elt F)) : (Proc.devRef .tc main_c : DevRef τ sig).ty.Contents (Elt F) :=
  constantI S_ 32 42#32

set_option maxRecDepth 8192 in
/-- `main_v6`'s composed term of the arguments (named: it is used 2 times). -/
def res_main_v6 (V0 : Valuation τ sig (Elt F)) : (Proc.devRef .tc main_v6 : DevRef τ sig).ty.Contents (Elt F) :=
  concatenate S2 0 [⟨S1, (broadcastInDim S1 ![] bcast_S_S1 (id (Host.shrui (res_main_c V0) (constantI S_ 32 32#32))))⟩, ⟨S1, (broadcastInDim S1 ![] bcast_S_S1 (id (andi (res_main_c V0) (constantI S_ 32 4294967295#32))))⟩] concatenates_S1_S1_S2_d0

set_option maxRecDepth 8192 in
/-- `main_call0_v2`'s composed term of the arguments (named: it is used 3 times). -/
def res_main_call0_v2 (V0 : Valuation τ sig (Elt F)) : (Proc.devRef .tc main_call0_v2 : DevRef τ sig).ty.Contents (Elt F) :=
  broadcastInDim S1x1 ![] bcast_S_S1x1 (id (constant S_ .f32 0x00000000#32))

set_option maxRecDepth 8192 in
/-- `main_call0_v5`'s composed term of the arguments (named: it is used 5 times). -/
def res_main_call0_v5 (V0 : Valuation τ sig (Elt F)) : (Proc.devRef .tc main_call0_v5 : DevRef τ sig).ty.Contents (Elt F) :=
  shapeCast _ (extractStridedSlice S1 ![0] (res_main_v6 V0) slices_S2_S1_0) shapeCasts_S1_S_

set_option maxRecDepth 8192 in
/-- `main_call0_v7`'s composed term of the arguments (named: it is used 5 times). -/
def res_main_call0_v7 (V0 : Valuation τ sig (Elt F)) : (Proc.devRef .tc main_call0_v7 : DevRef τ sig).ty.Contents (Elt F) :=
  shapeCast _ (extractStridedSlice S1 ![1] (res_main_v6 V0) slices_S2_S1_1) shapeCasts_S1_S_

set_option maxRecDepth 8192 in
/-- `main_call0_v14`'s composed term of the arguments (named: it is used 2 times). -/
def res_main_call0_v14 (V0 : Valuation τ sig (Elt F)) : (Proc.devRef .tc main_call0_v14 : DevRef τ sig).ty.Contents (Elt F) :=
  addi (muli (broadcastInDim S128x100000 ![] bcast_S_S128x100000 (constantI S_ 64 100000#64)) (iotaInDim S128x100000 64 0)) (muli (broadcastInDim S128x100000 ![] bcast_S_S128x100000 (constantI S_ 64 1#64)) (iotaInDim S128x100000 64 1))

set_option maxRecDepth 8192 in
/-- `main_call0_call0_v1`'s composed term of the arguments (named: it is used 4 times). -/
def res_main_call0_call0_v1 (V0 : Valuation τ sig (Elt F)) : (Proc.devRef .tc main_call0_call0_v1 : DevRef τ sig).ty.Contents (Elt F) :=
  xori (xori (res_main_call0_v5 V0) (res_main_call0_v7 V0)) (constantI S_ 32 466688986#32)

set_option maxRecDepth 8192 in
/-- `main_call0_call0_v5`'s composed term of the arguments (named: it is used 3 times). -/
def res_main_call0_call0_v5 (V0 : Valuation τ sig (Elt F)) : (Proc.devRef .tc main_call0_call0_v5 : DevRef τ sig).ty.Contents (Elt F) :=
  addi (trunci 32 (res_main_call0_v14 V0) natLt_32_64) (broadcastInDim S128x100000 ![] bcast_S_S128x100000 (res_main_call0_v7 V0))

set_option maxRecDepth 8192 in
/-- `main_call0_call0_v6`'s composed term of the arguments (named: it is used 2 times). -/
def res_main_call0_call0_v6 (V0 : Valuation τ sig (Elt F)) : (Proc.devRef .tc main_call0_call0_v6 : DevRef τ sig).ty.Contents (Elt F) :=
  addi (addi (trunci 32 (Host.shrui (res_main_call0_v14 V0) (broadcastInDim S128x100000 ![] bcast_S_S128x100000 (constantI S_ 64 32#64))) natLt_32_64) (broadcastInDim S128x100000 ![] bcast_S_S128x100000 (res_main_call0_v5 V0))) (res_main_call0_call0_v5 V0)

set_option maxRecDepth 8192 in
/-- `main_call0_call0_v12`'s composed term of the arguments (named: it is used 3 times). -/
def res_main_call0_call0_v12 (V0 : Valuation τ sig (Elt F)) : (Proc.devRef .tc main_call0_call0_v12 : DevRef τ sig).ty.Contents (Elt F) :=
  xori (res_main_call0_call0_v6 V0) (ori (Host.shli (res_main_call0_call0_v5 V0) (broadcastInDim S128x100000 ![] bcast_S_S128x100000 (constantI S_ 32 13#32))) (Host.shrui (res_main_call0_call0_v5 V0) (broadcastInDim S128x100000 ![] bcast_S_S128x100000 (constantI S_ 32 19#32))))

set_option maxRecDepth 8192 in
/-- `main_call0_call0_v13`'s composed term of the arguments (named: it is used 2 times). -/
def res_main_call0_call0_v13 (V0 : Valuation τ sig (Elt F)) : (Proc.devRef .tc main_call0_call0_v13 : DevRef τ sig).ty.Contents (Elt F) :=
  addi (res_main_call0_call0_v6 V0) (res_main_call0_call0_v12 V0)

set_option maxRecDepth 8192 in
/-- `main_call0_call0_v19`'s composed term of the arguments (named: it is used 3 times). -/
def res_main_call0_call0_v19 (V0 : Valuation τ sig (Elt F)) : (Proc.devRef .tc main_call0_call0_v19 : DevRef τ sig).ty.Contents (Elt F) :=
  xori (res_main_call0_call0_v13 V0) (ori (Host.shli (res_main_call0_call0_v12 V0) (broadcastInDim S128x100000 ![] bcast_S_S128x100000 (constantI S_ 32 15#32))) (Host.shrui (res_main_call0_call0_v12 V0) (broadcastInDim S128x100000 ![] bcast_S_S128x100000 (constantI S_ 32 17#32))))

set_option maxRecDepth 8192 in
/-- `main_call0_call0_v20`'s composed term of the arguments (named: it is used 2 times). -/
def res_main_call0_call0_v20 (V0 : Valuation τ sig (Elt F)) : (Proc.devRef .tc main_call0_call0_v20 : DevRef τ sig).ty.Contents (Elt F) :=
  addi (res_main_call0_call0_v13 V0) (res_main_call0_call0_v19 V0)

set_option maxRecDepth 8192 in
/-- `main_call0_call0_v26`'s composed term of the arguments (named: it is used 3 times). -/
def res_main_call0_call0_v26 (V0 : Valuation τ sig (Elt F)) : (Proc.devRef .tc main_call0_call0_v26 : DevRef τ sig).ty.Contents (Elt F) :=
  xori (res_main_call0_call0_v20 V0) (ori (Host.shli (res_main_call0_call0_v19 V0) (broadcastInDim S128x100000 ![] bcast_S_S128x100000 (constantI S_ 32 26#32))) (Host.shrui (res_main_call0_call0_v19 V0) (broadcastInDim S128x100000 ![] bcast_S_S128x100000 (constantI S_ 32 6#32))))

set_option maxRecDepth 8192 in
/-- `main_call0_call0_v27`'s composed term of the arguments (named: it is used 2 times). -/
def res_main_call0_call0_v27 (V0 : Valuation τ sig (Elt F)) : (Proc.devRef .tc main_call0_call0_v27 : DevRef τ sig).ty.Contents (Elt F) :=
  addi (res_main_call0_call0_v20 V0) (res_main_call0_call0_v26 V0)

set_option maxRecDepth 8192 in
/-- `main_call0_call0_v39`'s composed term of the arguments (named: it is used 3 times). -/
def res_main_call0_call0_v39 (V0 : Valuation τ sig (Elt F)) : (Proc.devRef .tc main_call0_call0_v39 : DevRef τ sig).ty.Contents (Elt F) :=
  addi (addi (xori (res_main_call0_call0_v27 V0) (ori (Host.shli (res_main_call0_call0_v26 V0) (broadcastInDim S128x100000 ![] bcast_S_S128x100000 (constantI S_ 32 6#32))) (Host.shrui (res_main_call0_call0_v26 V0) (broadcastInDim S128x100000 ![] bcast_S_S128x100000 (constantI S_ 32 26#32))))) (broadcastInDim S128x100000 ![] bcast_S_S128x100000 (res_main_call0_call0_v1 V0))) (broadcastInDim S128x100000 ![] bcast_S_S128x100000 (constantI S_ 32 1#32))

set_option maxRecDepth 8192 in
/-- `main_call0_call0_v40`'s composed term of the arguments (named: it is used 2 times). -/
def res_main_call0_call0_v40 (V0 : Valuation τ sig (Elt F)) : (Proc.devRef .tc main_call0_call0_v40 : DevRef τ sig).ty.Contents (Elt F) :=
  addi (addi (res_main_call0_call0_v27 V0) (broadcastInDim S128x100000 ![] bcast_S_S128x100000 (res_main_call0_v7 V0))) (res_main_call0_call0_v39 V0)

set_option maxRecDepth 8192 in
/-- `main_call0_call0_v46`'s composed term of the arguments (named: it is used 3 times). -/
def res_main_call0_call0_v46 (V0 : Valuation τ sig (Elt F)) : (Proc.devRef .tc main_call0_call0_v46 : DevRef τ sig).ty.Contents (Elt F) :=
  xori (res_main_call0_call0_v40 V0) (ori (Host.shli (res_main_call0_call0_v39 V0) (broadcastInDim S128x100000 ![] bcast_S_S128x100000 (constantI S_ 32 17#32))) (Host.shrui (res_main_call0_call0_v39 V0) (broadcastInDim S128x100000 ![] bcast_S_S128x100000 (constantI S_ 32 15#32))))

set_option maxRecDepth 8192 in
/-- `main_call0_call0_v47`'s composed term of the arguments (named: it is used 2 times). -/
def res_main_call0_call0_v47 (V0 : Valuation τ sig (Elt F)) : (Proc.devRef .tc main_call0_call0_v47 : DevRef τ sig).ty.Contents (Elt F) :=
  addi (res_main_call0_call0_v40 V0) (res_main_call0_call0_v46 V0)

set_option maxRecDepth 8192 in
/-- `main_call0_call0_v53`'s composed term of the arguments (named: it is used 3 times). -/
def res_main_call0_call0_v53 (V0 : Valuation τ sig (Elt F)) : (Proc.devRef .tc main_call0_call0_v53 : DevRef τ sig).ty.Contents (Elt F) :=
  xori (res_main_call0_call0_v47 V0) (ori (Host.shli (res_main_call0_call0_v46 V0) (broadcastInDim S128x100000 ![] bcast_S_S128x100000 (constantI S_ 32 29#32))) (Host.shrui (res_main_call0_call0_v46 V0) (broadcastInDim S128x100000 ![] bcast_S_S128x100000 (constantI S_ 32 3#32))))

set_option maxRecDepth 8192 in
/-- `main_call0_call0_v54`'s composed term of the arguments (named: it is used 2 times). -/
def res_main_call0_call0_v54 (V0 : Valuation τ sig (Elt F)) : (Proc.devRef .tc main_call0_call0_v54 : DevRef τ sig).ty.Contents (Elt F) :=
  addi (res_main_call0_call0_v47 V0) (res_main_call0_call0_v53 V0)

set_option maxRecDepth 8192 in
/-- `main_call0_call0_v60`'s composed term of the arguments (named: it is used 3 times). -/
def res_main_call0_call0_v60 (V0 : Valuation τ sig (Elt F)) : (Proc.devRef .tc main_call0_call0_v60 : DevRef τ sig).ty.Contents (Elt F) :=
  xori (res_main_call0_call0_v54 V0) (ori (Host.shli (res_main_call0_call0_v53 V0) (broadcastInDim S128x100000 ![] bcast_S_S128x100000 (constantI S_ 32 16#32))) (Host.shrui (res_main_call0_call0_v53 V0) (broadcastInDim S128x100000 ![] bcast_S_S128x100000 (constantI S_ 32 16#32))))

set_option maxRecDepth 8192 in
/-- `main_call0_call0_v61`'s composed term of the arguments (named: it is used 2 times). -/
def res_main_call0_call0_v61 (V0 : Valuation τ sig (Elt F)) : (Proc.devRef .tc main_call0_call0_v61 : DevRef τ sig).ty.Contents (Elt F) :=
  addi (res_main_call0_call0_v54 V0) (res_main_call0_call0_v60 V0)

set_option maxRecDepth 8192 in
/-- `main_call0_call0_v73`'s composed term of the arguments (named: it is used 3 times). -/
def res_main_call0_call0_v73 (V0 : Valuation τ sig (Elt F)) : (Proc.devRef .tc main_call0_call0_v73 : DevRef τ sig).ty.Contents (Elt F) :=
  addi (addi (xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32))))) (broadcastInDim S128x100000 ![] bcast_S_S128x100000 (res_main_call0_v5 V0))) (broadcastInDim S128x100000 ![] bcast_S_S128x100000 (constantI S_ 32 2#32))

set_option maxRecDepth 8192 in
/-- `main_call0_call0_v74`'s composed term of the arguments (named: it is used 2 times). -/
def res_main_call0_call0_v74 (V0 : Valuation τ sig (Elt F)) : (Proc.devRef .tc main_call0_call0_v74 : DevRef τ sig).ty.Contents (Elt F) :=
  addi (addi (res_main_call0_call0_v61 V0) (broadcastInDim S128x100000 ![] bcast_S_S128x100000 (res_main_call0_call0_v1 V0))) (res_main_call0_call0_v73 V0)

set_option maxRecDepth 8192 in
/-- `main_call0_call0_v80`'s composed term of the arguments (named: it is used 3 times). -/
def res_main_call0_call0_v80 (V0 : Valuation τ sig (Elt F)) : (Proc.devRef .tc main_call0_call0_v80 : DevRef τ sig).ty.Contents (Elt F) :=
  xori (res_main_call0_call0_v74 V0) (ori (Host.shli (res_main_call0_call0_v73 V0) (broadcastInDim S128x100000 ![] bcast_S_S128x100000 (constantI S_ 32 13#32))) (Host.shrui (res_main_call0_call0_v73 V0) (broadcastInDim S128x100000 ![] bcast_S_S128x100000 (constantI S_ 32 19#32))))

set_option maxRecDepth 8192 in
/-- `main_call0_call0_v81`'s composed term of the arguments (named: it is used 2 times). -/
def res_main_call0_call0_v81 (V0 : Valuation τ sig (Elt F)) : (Proc.devRef .tc main_call0_call0_v81 : DevRef τ sig).ty.Contents (Elt F) :=
  addi (res_main_call0_call0_v74 V0) (res_main_call0_call0_v80 V0)

set_option maxRecDepth 8192 in
/-- `main_call0_call0_v87`'s composed term of the arguments (named: it is used 3 times). -/
def res_main_call0_call0_v87 (V0 : Valuation τ sig (Elt F)) : (Proc.devRef .tc main_call0_call0_v87 : DevRef τ sig).ty.Contents (Elt F) :=
  xori (res_main_call0_call0_v81 V0) (ori (Host.shli (res_main_call0_call0_v80 V0) (broadcastInDim S128x100000 ![] bcast_S_S128x100000 (constantI S_ 32 15#32))) (Host.shrui (res_main_call0_call0_v80 V0) (broadcastInDim S128x100000 ![] bcast_S_S128x100000 (constantI S_ 32 17#32))))

set_option maxRecDepth 8192 in
/-- `main_call0_call0_v88`'s composed term of the arguments (named: it is used 2 times). -/
def res_main_call0_call0_v88 (V0 : Valuation τ sig (Elt F)) : (Proc.devRef .tc main_call0_call0_v88 : DevRef τ sig).ty.Contents (Elt F) :=
  addi (res_main_call0_call0_v81 V0) (res_main_call0_call0_v87 V0)

set_option maxRecDepth 8192 in
/-- `main_call0_call0_v94`'s composed term of the arguments (named: it is used 3 times). -/
def res_main_call0_call0_v94 (V0 : Valuation τ sig (Elt F)) : (Proc.devRef .tc main_call0_call0_v94 : DevRef τ sig).ty.Contents (Elt F) :=
  xori (res_main_call0_call0_v88 V0) (ori (Host.shli (res_main_call0_call0_v87 V0) (broadcastInDim S128x100000 ![] bcast_S_S128x100000 (constantI S_ 32 26#32))) (Host.shrui (res_main_call0_call0_v87 V0) (broadcastInDim S128x100000 ![] bcast_S_S128x100000 (constantI S_ 32 6#32))))

set_option maxRecDepth 8192 in
/-- `main_call0_call0_v95`'s composed term of the arguments (named: it is used 2 times). -/
def res_main_call0_call0_v95 (V0 : Valuation τ sig (Elt F)) : (Proc.devRef .tc main_call0_call0_v95 : DevRef τ sig).ty.Contents (Elt F) :=
  addi (res_main_call0_call0_v88 V0) (res_main_call0_call0_v94 V0)

set_option maxRecDepth 8192 in
/-- `main_call0_call0_v107`'s composed term of the arguments (named: it is used 3 times). -/
def res_main_call0_call0_v107 (V0 : Valuation τ sig (Elt F)) : (Proc.devRef .tc main_call0_call0_v107 : DevRef τ sig).ty.Contents (Elt F) :=
  addi (addi (xori (res_main_call0_call0_v95 V0) (ori (Host.shli (res_main_call0_call0_v94 V0) (broadcastInDim S128x100000 ![] bcast_S_S128x100000 (constantI S_ 32 6#32))) (Host.shrui (res_main_call0_call0_v94 V0) (broadcastInDim S128x100000 ![] bcast_S_S128x100000 (constantI S_ 32 26#32))))) (broadcastInDim S128x100000 ![] bcast_S_S128x100000 (res_main_call0_v7 V0))) (broadcastInDim S128x100000 ![] bcast_S_S128x100000 (constantI S_ 32 3#32))

set_option maxRecDepth 8192 in
/-- `main_call0_call0_v108`'s composed term of the arguments (named: it is used 2 times). -/
def res_main_call0_call0_v108 (V0 : Valuation τ sig (Elt F)) : (Proc.devRef .tc main_call0_call0_v108 : DevRef τ sig).ty.Contents (Elt F) :=
  addi (addi (res_main_call0_call0_v95 V0) (broadcastInDim S128x100000 ![] bcast_S_S128x100000 (res_main_call0_v5 V0))) (res_main_call0_call0_v107 V0)

set_option maxRecDepth 8192 in
/-- `main_call0_call0_v114`'s composed term of the arguments (named: it is used 3 times). -/
def res_main_call0_call0_v114 (V0 : Valuation τ sig (Elt F)) : (Proc.devRef .tc main_call0_call0_v114 : DevRef τ sig).ty.Contents (Elt F) :=
  xori (res_main_call0_call0_v108 V0) (ori (Host.shli (res_main_call0_call0_v107 V0) (broadcastInDim S128x100000 ![] bcast_S_S128x100000 (constantI S_ 32 17#32))) (Host.shrui (res_main_call0_call0_v107 V0) (broadcastInDim S128x100000 ![] bcast_S_S128x100000 (constantI S_ 32 15#32))))

set_option maxRecDepth 8192 in
/-- `main_call0_call0_v115`'s composed term of the arguments (named: it is used 2 times). -/
def res_main_call0_call0_v115 (V0 : Valuation τ sig (Elt F)) : (Proc.devRef .tc main_call0_call0_v115 : DevRef τ sig).ty.Contents (Elt F) :=
  addi (res_main_call0_call0_v108 V0) (res_main_call0_call0_v114 V0)

set_option maxRecDepth 8192 in
/-- `main_call0_call0_v121`'s composed term of the arguments (named: it is used 3 times). -/
def res_main_call0_call0_v121 (V0 : Valuation τ sig (Elt F)) : (Proc.devRef .tc main_call0_call0_v121 : DevRef τ sig).ty.Contents (Elt F) :=
  xori (res_main_call0_call0_v115 V0) (ori (Host.shli (res_main_call0_call0_v114 V0) (broadcastInDim S128x100000 ![] bcast_S_S128x100000 (constantI S_ 32 29#32))) (Host.shrui (res_main_call0_call0_v114 V0) (broadcastInDim S128x100000 ![] bcast_S_S128x100000 (constantI S_ 32 3#32))))

set_option maxRecDepth 8192 in
/-- `main_call0_call0_v122`'s composed term of the arguments (named: it is used 2 times). -/
def res_main_call0_call0_v122 (V0 : Valuation τ sig (Elt F)) : (Proc.devRef .tc main_call0_call0_v122 : DevRef τ sig).ty.Contents (Elt F) :=
  addi (res_main_call0_call0_v115 V0) (res_main_call0_call0_v121 V0)

set_option maxRecDepth 8192 in
/-- `main_call0_call0_v128`'s composed term of the arguments (named: it is used 3 times). -/
def res_main_call0_call0_v128 (V0 : Valuation τ sig (Elt F)) : (Proc.devRef .tc main_call0_call0_v128 : DevRef τ sig).ty.Contents (Elt F) :=
  xori (res_main_call0_call0_v122 V0) (ori (Host.shli (res_main_call0_call0_v121 V0) (broadcastInDim S128x100000 ![] bcast_S_S128x100000 (constantI S_ 32 16#32))) (Host.shrui (res_main_call0_call0_v121 V0) (broadcastInDim S128x100000 ![] bcast_S_S128x100000 (constantI S_ 32 16#32))))

set_option maxRecDepth 8192 in
/-- `main_call0_call0_v129`'s composed term of the arguments (named: it is used 2 times). -/
def res_main_call0_call0_v129 (V0 : Valuation τ sig (Elt F)) : (Proc.devRef .tc main_call0_call0_v129 : DevRef τ sig).ty.Contents (Elt F) :=
  addi (res_main_call0_call0_v122 V0) (res_main_call0_call0_v128 V0)

set_option maxRecDepth 8192 in
/-- `main_call0_call0_v141`'s composed term of the arguments (named: it is used 3 times). -/
def res_main_call0_call0_v141 (V0 : Valuation τ sig (Elt F)) : (Proc.devRef .tc main_call0_call0_v141 : DevRef τ sig).ty.Contents (Elt F) :=
  addi (addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0))) (broadcastInDim S128x100000 ![] bcast_S_S128x100000 (constantI S_ 32 4#32))

set_option maxRecDepth 8192 in
/-- `main_call0_call0_v142`'s composed term of the arguments (named: it is used 2 times). -/
def res_main_call0_call0_v142 (V0 : Valuation τ sig (Elt F)) : (Proc.devRef .tc main_call0_call0_v142 : DevRef τ sig).ty.Contents (Elt F) :=
  addi (addi (res_main_call0_call0_v129 V0) (broadcastInDim S128x100000 ![] bcast_S_S128x100000 (res_main_call0_v7 V0))) (res_main_call0_call0_v141 V0)

set_option maxRecDepth 8192 in
/-- `main_call0_call0_v148`'s composed term of the arguments (named: it is used 3 times). -/
def res_main_call0_call0_v148 (V0 : Valuation τ sig (Elt F)) : (Proc.devRef .tc main_call0_call0_v148 : DevRef τ sig).ty.Contents (Elt F) :=
  xori (res_main_call0_call0_v142 V0) (ori (Host.shli (res_main_call0_call0_v141 V0) (broadcastInDim S128x100000 ![] bcast_S_S128x100000 (constantI S_ 32 13#32))) (Host.shrui (res_main_call0_call0_v141 V0) (broadcastInDim S128x100000 ![] bcast_S_S128x100000 (constantI S_ 32 19#32))))

set_option maxRecDepth 8192 in
/-- `main_call0_call0_v149`'s composed term of the arguments (named: it is used 2 times). -/
def res_main_call0_call0_v149 (V0 : Valuation τ sig (Elt F)) : (Proc.devRef .tc main_call0_call0_v149 : DevRef τ sig).ty.Contents (Elt F) :=
  addi (res_main_call0_call0_v142 V0) (res_main_call0_call0_v148 V0)

set_option maxRecDepth 8192 in
/-- `main_call0_call0_v155`'s composed term of the arguments (named: it is used 3 times). -/
def res_main_call0_call0_v155 (V0 : Valuation τ sig (Elt F)) : (Proc.devRef .tc main_call0_call0_v155 : DevRef τ sig).ty.Contents (Elt F) :=
  xori (res_main_call0_call0_v149 V0) (ori (Host.shli (res_main_call0_call0_v148 V0) (broadcastInDim S128x100000 ![] bcast_S_S128x100000 (constantI S_ 32 15#32))) (Host.shrui (res_main_call0_call0_v148 V0) (broadcastInDim S128x100000 ![] bcast_S_S128x100000 (constantI S_ 32 17#32))))

set_option maxRecDepth 8192 in
/-- `main_call0_call0_v156`'s composed term of the arguments (named: it is used 2 times). -/
def res_main_call0_call0_v156 (V0 : Valuation τ sig (Elt F)) : (Proc.devRef .tc main_call0_call0_v156 : DevRef τ sig).ty.Contents (Elt F) :=
  addi (res_main_call0_call0_v149 V0) (res_main_call0_call0_v155 V0)

set_option maxRecDepth 8192 in
/-- `main_call0_call0_v162`'s composed term of the arguments (named: it is used 3 times). -/
def res_main_call0_call0_v162 (V0 : Valuation τ sig (Elt F)) : (Proc.devRef .tc main_call0_call0_v162 : DevRef τ sig).ty.Contents (Elt F) :=
  xori (res_main_call0_call0_v156 V0) (ori (Host.shli (res_main_call0_call0_v155 V0) (broadcastInDim S128x100000 ![] bcast_S_S128x100000 (constantI S_ 32 26#32))) (Host.shrui (res_main_call0_call0_v155 V0) (broadcastInDim S128x100000 ![] bcast_S_S128x100000 (constantI S_ 32 6#32))))

set_option maxRecDepth 8192 in
/-- `main_call0_call0_v163`'s composed term of the arguments (named: it is used 2 times). -/
def res_main_call0_call0_v163 (V0 : Valuation τ sig (Elt F)) : (Proc.devRef .tc main_call0_call0_v163 : DevRef τ sig).ty.Contents (Elt F) :=
  addi (res_main_call0_call0_v156 V0) (res_main_call0_call0_v162 V0)

set_option maxRecDepth 8192 in
/-- `main_v14`'s composed term of the arguments (named: it is used 2 times). -/
def res_main_v14 (V0 : Valuation τ sig (Elt F)) : (Proc.devRef .tc main_v14 : DevRef τ sig).ty.Contents (Elt F) :=
  addf (Host.negf (Host.log (Host.negf (Host.log (addf (maximumf (broadcastInDim S128x100000 ![0, 1] bcast_S1x1_S128x100000_0_1 (res_main_call0_v2 V0)) (addf (mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0)))) (broadcastInDim S128x100000 ![0, 1] bcast_S1x1_S128x100000_0_1 (res_main_call0_v2 V0)))) (broadcastInDim S128x100000 ![] bcast_S_S128x100000 (constant S_ .f32 0x00800000#32))))))) (V0 (Proc.devRef .tc main_arg0))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S128x100000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v15`'s composed term of the arguments (named: it is used 4 times). -/
def res_main_v15 (V0 : Valuation τ sig (Elt F)) : (Proc.devRef .tc main_v15 : DevRef τ sig).ty.Contents (Elt F) :=
  (fun j => (Host.argReduce reducer_argmax_f32_i32 (res_main_v14 V0) (res_main_call1_v0 V0) (res_main_call1_cst V0) (res_main_call1_c V0) reducesTo_S128x100000_S128_d1 h_S_ j).2)

set_option maxRecDepth 8192 in
/-- `main_call3_v5`'s composed term of the arguments (named: it is used 2 times). -/
def res_main_call3_v5 (V0 : Valuation τ sig (Elt F)) : (Proc.devRef .tc main_call3_v5 : DevRef τ sig).ty.Contents (Elt F) :=
  subf (V0 (Proc.devRef .tc main_arg0)) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (V0 (Proc.devRef .tc main_arg0)) (constant S_ .f32 0xFF800000#32) reducesTo_S128x100000_S128_d1 h_S_))))

set_option maxRecDepth 8192 in
/-- `main_call4_v5`'s composed term of the arguments (named: it is used 3 times). -/
def res_main_call4_v5 (V0 : Valuation τ sig (Elt F)) : (Proc.devRef .tc main_call4_v5 : DevRef τ sig).ty.Contents (Elt F) :=
  broadcastInDim S128x1 ![0] bcast_S128_S128x1_0 (select (cmpi .slt (res_main_v15 V0) (broadcastInDim S128 ![] bcast_S_S128 (constantI S_ 32 0#32))) (addi (res_main_v15 V0) (broadcastInDim S128 ![] bcast_S_S128 (constantI S_ 32 100000#32))) (res_main_v15 V0))

end Cert.ReferenceIdeal.Value

end
-- ==== Proof.RefRun.lean ====
module

public import proofs.«01_k».proof.Proof.RefTerms

@[expose] public section

set_option Elab.async false

/-! ## The reference's run: each buffer read back, stretch by stretch -/

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_0 (val0 V0)
/-- The buffers that window `ops_0`'s operations write. -/
abbrev ops_0_W : List (Ref sig .tc) := [main_c, main_c_0, main_v0, main_v1, main_v2, main_c_1, main_v3, main_v4, main_v5, main_v6, main_cst, main_cst_2, main_call0_v0, main_call0_v1, main_call0_v2, main_call0_v3, main_call0_v4, main_call0_v5, main_call0_v6, main_call0_v7, main_call0_v8, main_call0_v9, main_call0_c, main_call0_v10, main_call0_v11, main_call0_c_0, main_call0_v12, main_call0_v13, main_call0_v14, main_call0_c_1]
set_option maxRecDepth 8192 in
theorem ops_0_writes : (ops_0 : List (HloOp τ sig (Elt F))).Forall fun op => op.writes ⊆ (ops_0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_0` does not write keeps its contents through it. -/
theorem val0_1_keep (V0 : Valuation τ sig (Elt F)) (r : Ref sig .tc) (h : r ∉ ops_0_W) :
    val0_1 V0 (Proc.devRef .tc r) = val0 V0 (Proc.devRef .tc r) :=
  after_of_writes_sub ops_0 _ ops_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_call0_v2 (V0 : Valuation τ sig (Elt F)) : val0_1 V0 (no_index (Proc.devRef .tc main_call0_v2)) = res_main_call0_v2 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v3 (V0 : Valuation τ sig (Elt F)) : val0_1 V0 (no_index (Proc.devRef .tc main_call0_v3)) = broadcastInDim S1x1 ![] bcast_S_S1x1 (id (constant S_ .f32 0x3F800000#32)) := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v5 (V0 : Valuation τ sig (Elt F)) : val0_1 V0 (no_index (Proc.devRef .tc main_call0_v5)) = res_main_call0_v5 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v7 (V0 : Valuation τ sig (Elt F)) : val0_1 V0 (no_index (Proc.devRef .tc main_call0_v7)) = res_main_call0_v7 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_v14 (V0 : Valuation τ sig (Elt F)) : val0_1 V0 (no_index (Proc.devRef .tc main_call0_v14)) = res_main_call0_v14 V0 := by
  unfold val0_1
  simp only [ops_0, TRef.binary, TRef.nullary, TRef.reshape, TRef.unary, TRef.toBuf, TRef.ofBuf, cast_eq]
  after_results_simp
  all_goals rfl
set_option maxRecDepth 8192 in
set_option maxHeartbeats 2000000 in
theorem val0_1_main_call0_c_1 (V0 : Valuation τ sig (Elt F)) : val0_1 V0 (no_index (Proc.devRef .tc main_call0_c_1)) = constantI S_ 64 32#64 := by
  unfold val0_1
  simp only [ops_0, TRef.binary, TRef.nullary, TRef.reshape, TRef.unary, TRef.toBuf, TRef.ofBuf, cast_eq]
  after_results_simp
  all_goals rfl

/-- The device's buffer contents after @main's first 60 operations. -/
def val0_2 (V0 : Valuation τ sig (Elt F)) : Valuation τ sig (Elt F) := after ops_1 (val0_1 V0)
/-- The buffers that window `ops_1`'s operations write. -/
abbrev ops_1_W : List (Ref sig .tc) := [main_call0_v15, main_call0_v16, main_call0_v17, main_call0_v18, main_call0_call0_v0, main_call0_call0_c, main_call0_call0_v1, main_call0_call0_v2, main_call0_call0_v3, main_call0_call0_v4, main_call0_call0_v5, main_call0_call0_v6, main_call0_call0_c_0, main_call0_call0_v7, main_call0_call0_v8, main_call0_call0_c_1, main_call0_call0_v9, main_call0_call0_v10, main_call0_call0_v11, main_call0_call0_v12, main_call0_call0_v13, main_call0_call0_c_2, main_call0_call0_v14, main_call0_call0_v15, main_call0_call0_c_3, main_call0_call0_v16, main_call0_call0_v17, main_call0_call0_v18, main_call0_call0_v19, main_call0_call0_v20]
set_option maxRecDepth 8192 in
theorem ops_1_writes : (ops_1 : List (HloOp τ sig (Elt F))).Forall fun op => op.writes ⊆ (ops_1_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_1` does not write keeps its contents through it. -/
theorem val0_2_keep (V0 : Valuation τ sig (Elt F)) (r : Ref sig .tc) (h : r ∉ ops_1_W) :
    val0_2 V0 (Proc.devRef .tc r) = val0_1 V0 (Proc.devRef .tc r) :=
  after_of_writes_sub ops_1 _ ops_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_call0_v2 (V0 : Valuation τ sig (Elt F)) : val0_2 V0 (no_index (Proc.devRef .tc main_call0_v2)) = res_main_call0_v2 V0 :=
  (val0_2_keep V0 main_call0_v2 (by decide)).trans (val0_1_main_call0_v2 V0)
theorem val0_2_main_call0_v3 (V0 : Valuation τ sig (Elt F)) : val0_2 V0 (no_index (Proc.devRef .tc main_call0_v3)) = broadcastInDim S1x1 ![] bcast_S_S1x1 (id (constant S_ .f32 0x3F800000#32)) :=
  (val0_2_keep V0 main_call0_v3 (by decide)).trans (val0_1_main_call0_v3 V0)
theorem val0_2_main_call0_v5 (V0 : Valuation τ sig (Elt F)) : val0_2 V0 (no_index (Proc.devRef .tc main_call0_v5)) = res_main_call0_v5 V0 :=
  (val0_2_keep V0 main_call0_v5 (by decide)).trans (val0_1_main_call0_v5 V0)
theorem val0_2_main_call0_v7 (V0 : Valuation τ sig (Elt F)) : val0_2 V0 (no_index (Proc.devRef .tc main_call0_v7)) = res_main_call0_v7 V0 :=
  (val0_2_keep V0 main_call0_v7 (by decide)).trans (val0_1_main_call0_v7 V0)
set_option maxRecDepth 8192 in
set_option maxHeartbeats 2000000 in
theorem val0_2_main_call0_call0_v1 (V0 : Valuation τ sig (Elt F)) : val0_2 V0 (no_index (Proc.devRef .tc main_call0_call0_v1)) = res_main_call0_call0_v1 V0 := by
  unfold val0_2
  simp only [ops_1, TRef.binary, TRef.nullary, TRef.unary, TRef.toBuf, TRef.ofBuf, cast_eq]
  after_results_simp
  simp only [val0_1_main_call0_v7, val0_1_main_call0_v5] <;> rfl
set_option maxRecDepth 8192 in
set_option maxHeartbeats 2000000 in
theorem val0_2_main_call0_call0_v19 (V0 : Valuation τ sig (Elt F)) : val0_2 V0 (no_index (Proc.devRef .tc main_call0_call0_v19)) = res_main_call0_call0_v19 V0 := by
  unfold val0_2
  simp only [ops_1, TRef.binary, TRef.nullary, TRef.unary, TRef.toBuf, TRef.ofBuf, cast_eq]
  after_results_simp
  simp only [val0_1_main_call0_v7, val0_1_main_call0_v14, val0_1_main_call0_v5, val0_1_main_call0_c_1] <;> rfl
set_option maxRecDepth 8192 in
set_option maxHeartbeats 2000000 in
theorem val0_2_main_call0_call0_v20 (V0 : Valuation τ sig (Elt F)) : val0_2 V0 (no_index (Proc.devRef .tc main_call0_call0_v20)) = res_main_call0_call0_v20 V0 := by
  unfold val0_2
  simp only [ops_1, TRef.binary, TRef.nullary, TRef.unary, TRef.toBuf, TRef.ofBuf, cast_eq]
  after_results_simp
  simp only [val0_1_main_call0_v7, val0_1_main_call0_v14, val0_1_main_call0_v5, val0_1_main_call0_c_1] <;> rfl

/-- The device's buffer contents after @main's first 90 operations. -/
def val0_3 (V0 : Valuation τ sig (Elt F)) : Valuation τ sig (Elt F) := after ops_2 (val0_2 V0)
/-- The buffers that window `ops_2`'s operations write. -/
abbrev ops_2_W : List (Ref sig .tc) := [main_call0_call0_c_4, main_call0_call0_v21, main_call0_call0_v22, main_call0_call0_c_5, main_call0_call0_v23, main_call0_call0_v24, main_call0_call0_v25, main_call0_call0_v26, main_call0_call0_v27, main_call0_call0_c_6, main_call0_call0_v28, main_call0_call0_v29, main_call0_call0_c_7, main_call0_call0_v30, main_call0_call0_v31, main_call0_call0_v32, main_call0_call0_v33, main_call0_call0_v34, main_call0_call0_v35, main_call0_call0_v36, main_call0_call0_v37, main_call0_call0_c_8, main_call0_call0_v38, main_call0_call0_v39, main_call0_call0_v40, main_call0_call0_c_9, main_call0_call0_v41, main_call0_call0_v42, main_call0_call0_c_10, main_call0_call0_v43]
set_option maxRecDepth 8192 in
theorem ops_2_writes : (ops_2 : List (HloOp τ sig (Elt F))).Forall fun op => op.writes ⊆ (ops_2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_2` does not write keeps its contents through it. -/
theorem val0_3_keep (V0 : Valuation τ sig (Elt F)) (r : Ref sig .tc) (h : r ∉ ops_2_W) :
    val0_3 V0 (Proc.devRef .tc r) = val0_2 V0 (Proc.devRef .tc r) :=
  after_of_writes_sub ops_2 _ ops_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_call0_v2 (V0 : Valuation τ sig (Elt F)) : val0_3 V0 (no_index (Proc.devRef .tc main_call0_v2)) = res_main_call0_v2 V0 :=
  (val0_3_keep V0 main_call0_v2 (by decide)).trans (val0_2_main_call0_v2 V0)
theorem val0_3_main_call0_v3 (V0 : Valuation τ sig (Elt F)) : val0_3 V0 (no_index (Proc.devRef .tc main_call0_v3)) = broadcastInDim S1x1 ![] bcast_S_S1x1 (id (constant S_ .f32 0x3F800000#32)) :=
  (val0_3_keep V0 main_call0_v3 (by decide)).trans (val0_2_main_call0_v3 V0)
theorem val0_3_main_call0_v5 (V0 : Valuation τ sig (Elt F)) : val0_3 V0 (no_index (Proc.devRef .tc main_call0_v5)) = res_main_call0_v5 V0 :=
  (val0_3_keep V0 main_call0_v5 (by decide)).trans (val0_2_main_call0_v5 V0)
theorem val0_3_main_call0_v7 (V0 : Valuation τ sig (Elt F)) : val0_3 V0 (no_index (Proc.devRef .tc main_call0_v7)) = res_main_call0_v7 V0 :=
  (val0_3_keep V0 main_call0_v7 (by decide)).trans (val0_2_main_call0_v7 V0)
theorem val0_3_main_call0_call0_v1 (V0 : Valuation τ sig (Elt F)) : val0_3 V0 (no_index (Proc.devRef .tc main_call0_call0_v1)) = res_main_call0_call0_v1 V0 :=
  (val0_3_keep V0 main_call0_call0_v1 (by decide)).trans (val0_2_main_call0_call0_v1 V0)
set_option maxRecDepth 8192 in
set_option maxHeartbeats 2000000 in
theorem val0_3_main_call0_call0_v39 (V0 : Valuation τ sig (Elt F)) : val0_3 V0 (no_index (Proc.devRef .tc main_call0_call0_v39)) = res_main_call0_call0_v39 V0 := by
  unfold val0_3
  simp only [ops_2, TRef.binary, TRef.nullary, TRef.unary, TRef.toBuf, TRef.ofBuf, cast_eq]
  after_results_simp
  simp only [val0_2_main_call0_call0_v1, val0_2_main_call0_call0_v19, val0_2_main_call0_call0_v20] <;> rfl
set_option maxRecDepth 8192 in
set_option maxHeartbeats 2000000 in
theorem val0_3_main_call0_call0_v40 (V0 : Valuation τ sig (Elt F)) : val0_3 V0 (no_index (Proc.devRef .tc main_call0_call0_v40)) = res_main_call0_call0_v40 V0 := by
  unfold val0_3
  simp only [ops_2, TRef.binary, TRef.nullary, TRef.unary, TRef.toBuf, TRef.ofBuf, cast_eq]
  after_results_simp
  simp only [val0_2_main_call0_call0_v1, val0_2_main_call0_call0_v19, val0_2_main_call0_call0_v20, val0_2_main_call0_v7] <;> rfl
set_option maxRecDepth 8192 in
set_option maxHeartbeats 2000000 in
theorem val0_3_main_call0_call0_v42 (V0 : Valuation τ sig (Elt F)) : val0_3 V0 (no_index (Proc.devRef .tc main_call0_call0_v42)) = Host.shli (res_main_call0_call0_v39 V0) (broadcastInDim S128x100000 ![] bcast_S_S128x100000 (constantI S_ 32 17#32)) := by
  unfold val0_3
  simp only [ops_2, TRef.binary, TRef.nullary, TRef.unary, TRef.toBuf, TRef.ofBuf, cast_eq]
  after_results_simp
  simp only [val0_2_main_call0_call0_v1, val0_2_main_call0_call0_v19, val0_2_main_call0_call0_v20] <;> rfl
set_option maxRecDepth 8192 in
set_option maxHeartbeats 2000000 in
theorem val0_3_main_call0_call0_v43 (V0 : Valuation τ sig (Elt F)) : val0_3 V0 (no_index (Proc.devRef .tc main_call0_call0_v43)) = broadcastInDim S128x100000 ![] bcast_S_S128x100000 (constantI S_ 32 15#32) := by
  unfold val0_3
  simp only [ops_2, TRef.binary, TRef.nullary, TRef.unary, TRef.toBuf, TRef.ofBuf, cast_eq]
  after_results_simp
  all_goals rfl

/-- The device's buffer contents after @main's first 120 operations. -/
def val0_4 (V0 : Valuation τ sig (Elt F)) : Valuation τ sig (Elt F) := after ops_3 (val0_3 V0)
/-- The buffers that window `ops_3`'s operations write. -/
abbrev ops_3_W : List (Ref sig .tc) := [main_call0_call0_v44, main_call0_call0_v45, main_call0_call0_v46, main_call0_call0_v47, main_call0_call0_c_11, main_call0_call0_v48, main_call0_call0_v49, main_call0_call0_c_12, main_call0_call0_v50, main_call0_call0_v51, main_call0_call0_v52, main_call0_call0_v53, main_call0_call0_v54, main_call0_call0_c_13, main_call0_call0_v55, main_call0_call0_v56, main_call0_call0_c_14, main_call0_call0_v57, main_call0_call0_v58, main_call0_call0_v59, main_call0_call0_v60, main_call0_call0_v61, main_call0_call0_c_15, main_call0_call0_v62, main_call0_call0_v63, main_call0_call0_c_16, main_call0_call0_v64, main_call0_call0_v65, main_call0_call0_v66, main_call0_call0_v67]
set_option maxRecDepth 8192 in
theorem ops_3_writes : (ops_3 : List (HloOp τ sig (Elt F))).Forall fun op => op.writes ⊆ (ops_3_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_3` does not write keeps its contents through it. -/
theorem val0_4_keep (V0 : Valuation τ sig (Elt F)) (r : Ref sig .tc) (h : r ∉ ops_3_W) :
    val0_4 V0 (Proc.devRef .tc r) = val0_3 V0 (Proc.devRef .tc r) :=
  after_of_writes_sub ops_3 _ ops_3_writes h
theorem val0_4_main_arg0 (V0 : Valuation τ sig (Elt F)) : val0_4 V0 (no_index (Proc.devRef .tc main_arg0)) = V0 (Proc.devRef .tc main_arg0) :=
  (val0_4_keep V0 main_arg0 (by decide)).trans (val0_3_main_arg0 V0)
theorem val0_4_main_arg1 (V0 : Valuation τ sig (Elt F)) : val0_4 V0 (no_index (Proc.devRef .tc main_arg1)) = V0 (Proc.devRef .tc main_arg1) :=
  (val0_4_keep V0 main_arg1 (by decide)).trans (val0_3_main_arg1 V0)
theorem val0_4_main_call0_v2 (V0 : Valuation τ sig (Elt F)) : val0_4 V0 (no_index (Proc.devRef .tc main_call0_v2)) = res_main_call0_v2 V0 :=
  (val0_4_keep V0 main_call0_v2 (by decide)).trans (val0_3_main_call0_v2 V0)
theorem val0_4_main_call0_v3 (V0 : Valuation τ sig (Elt F)) : val0_4 V0 (no_index (Proc.devRef .tc main_call0_v3)) = broadcastInDim S1x1 ![] bcast_S_S1x1 (id (constant S_ .f32 0x3F800000#32)) :=
  (val0_4_keep V0 main_call0_v3 (by decide)).trans (val0_3_main_call0_v3 V0)
theorem val0_4_main_call0_v5 (V0 : Valuation τ sig (Elt F)) : val0_4 V0 (no_index (Proc.devRef .tc main_call0_v5)) = res_main_call0_v5 V0 :=
  (val0_4_keep V0 main_call0_v5 (by decide)).trans (val0_3_main_call0_v5 V0)
theorem val0_4_main_call0_v7 (V0 : Valuation τ sig (Elt F)) : val0_4 V0 (no_index (Proc.devRef .tc main_call0_v7)) = res_main_call0_v7 V0 :=
  (val0_4_keep V0 main_call0_v7 (by decide)).trans (val0_3_main_call0_v7 V0)
theorem val0_4_main_call0_call0_v1 (V0 : Valuation τ sig (Elt F)) : val0_4 V0 (no_index (Proc.devRef .tc main_call0_call0_v1)) = res_main_call0_call0_v1 V0 :=
  (val0_4_keep V0 main_call0_call0_v1 (by decide)).trans (val0_3_main_call0_call0_v1 V0)
set_option maxRecDepth 8192 in
set_option maxHeartbeats 2000000 in
theorem val0_4_main_call0_call0_v61 (V0 : Valuation τ sig (Elt F)) : val0_4 V0 (no_index (Proc.devRef .tc main_call0_call0_v61)) = res_main_call0_call0_v61 V0 := by
  unfold val0_4
  simp only [ops_3, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl
set_option maxRecDepth 8192 in
set_option maxHeartbeats 2000000 in
theorem val0_4_main_call0_call0_v67 (V0 : Valuation τ sig (Elt F)) : val0_4 V0 (no_index (Proc.devRef .tc main_call0_call0_v67)) = xori (res_main_call0_call0_v61 V0) (ori (Host.shli (res_main_call0_call0_v60 V0) (broadcastInDim S128x100000 ![] bcast_S_S128x100000 (constantI S_ 32 24#32))) (Host.shrui (res_main_call0_call0_v60 V0) (broadcastInDim S128x100000 ![] bcast_S_S128x100000 (constantI S_ 32 8#32)))) := by
  unfold val0_4
  simp only [ops_3, TRef.binary, TRef.nullary, TRef.unary, TRef.toBuf, TRef.ofBuf, cast_eq]
  after_results_simp
  simp only [val0_3_main_call0_call0_v43, val0_3_main_call0_call0_v39, val0_3_main_call0_call0_v42, val0_3_main_call0_call0_v40] <;> rfl

/-- The device's buffer contents after @main's first 150 operations. -/
def val0_5 (V0 : Valuation τ sig (Elt F)) : Valuation τ sig (Elt F) := after ops_4 (val0_4 V0)
/-- The buffers that window `ops_4`'s operations write. -/
abbrev ops_4_W : List (Ref sig .tc) := [main_call0_call0_v68, main_call0_call0_v69, main_call0_call0_v70, main_call0_call0_v71, main_call0_call0_c_17, main_call0_call0_v72, main_call0_call0_v73, main_call0_call0_v74, main_call0_call0_c_18, main_call0_call0_v75, main_call0_call0_v76, main_call0_call0_c_19, main_call0_call0_v77, main_call0_call0_v78, main_call0_call0_v79, main_call0_call0_v80, main_call0_call0_v81, main_call0_call0_c_20, main_call0_call0_v82, main_call0_call0_v83, main_call0_call0_c_21, main_call0_call0_v84, main_call0_call0_v85, main_call0_call0_v86, main_call0_call0_v87, main_call0_call0_v88, main_call0_call0_c_22, main_call0_call0_v89, main_call0_call0_v90, main_call0_call0_c_23]
set_option maxRecDepth 8192 in
theorem ops_4_writes : (ops_4 : List (HloOp τ sig (Elt F))).Forall fun op => op.writes ⊆ (ops_4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_4` does not write keeps its contents through it. -/
theorem val0_5_keep (V0 : Valuation τ sig (Elt F)) (r : Ref sig .tc) (h : r ∉ ops_4_W) :
    val0_5 V0 (Proc.devRef .tc r) = val0_4 V0 (Proc.devRef .tc r) :=
  after_of_writes_sub ops_4 _ ops_4_writes h
theorem val0_5_main_arg0 (V0 : Valuation τ sig (Elt F)) : val0_5 V0 (no_index (Proc.devRef .tc main_arg0)) = V0 (Proc.devRef .tc main_arg0) :=
  (val0_5_keep V0 main_arg0 (by decide)).trans (val0_4_main_arg0 V0)
theorem val0_5_main_arg1 (V0 : Valuation τ sig (Elt F)) : val0_5 V0 (no_index (Proc.devRef .tc main_arg1)) = V0 (Proc.devRef .tc main_arg1) :=
  (val0_5_keep V0 main_arg1 (by decide)).trans (val0_4_main_arg1 V0)
theorem val0_5_main_call0_v2 (V0 : Valuation τ sig (Elt F)) : val0_5 V0 (no_index (Proc.devRef .tc main_call0_v2)) = res_main_call0_v2 V0 :=
  (val0_5_keep V0 main_call0_v2 (by decide)).trans (val0_4_main_call0_v2 V0)
theorem val0_5_main_call0_v3 (V0 : Valuation τ sig (Elt F)) : val0_5 V0 (no_index (Proc.devRef .tc main_call0_v3)) = broadcastInDim S1x1 ![] bcast_S_S1x1 (id (constant S_ .f32 0x3F800000#32)) :=
  (val0_5_keep V0 main_call0_v3 (by decide)).trans (val0_4_main_call0_v3 V0)
theorem val0_5_main_call0_v5 (V0 : Valuation τ sig (Elt F)) : val0_5 V0 (no_index (Proc.devRef .tc main_call0_v5)) = res_main_call0_v5 V0 :=
  (val0_5_keep V0 main_call0_v5 (by decide)).trans (val0_4_main_call0_v5 V0)
theorem val0_5_main_call0_v7 (V0 : Valuation τ sig (Elt F)) : val0_5 V0 (no_index (Proc.devRef .tc main_call0_v7)) = res_main_call0_v7 V0 :=
  (val0_5_keep V0 main_call0_v7 (by decide)).trans (val0_4_main_call0_v7 V0)
theorem val0_5_main_call0_call0_v1 (V0 : Valuation τ sig (Elt F)) : val0_5 V0 (no_index (Proc.devRef .tc main_call0_call0_v1)) = res_main_call0_call0_v1 V0 :=
  (val0_5_keep V0 main_call0_call0_v1 (by decide)).trans (val0_4_main_call0_call0_v1 V0)
set_option maxRecDepth 8192 in
set_option maxHeartbeats 2000000 in
theorem val0_5_main_call0_call0_v87 (V0 : Valuation τ sig (Elt F)) : val0_5 V0 (no_index (Proc.devRef .tc main_call0_call0_v87)) = res_main_call0_call0_v87 V0 := by
  unfold val0_5
  simp only [ops_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_v88 (V0 : Valuation τ sig (Elt F)) : val0_5 V0 (no_index (Proc.devRef .tc main_call0_call0_v88)) = res_main_call0_call0_v88 V0 := by
  unfold val0_5
  simp only [ops_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_v90 (V0 : Valuation τ sig (Elt F)) : val0_5 V0 (no_index (Proc.devRef .tc main_call0_call0_v90)) = Host.shli (res_main_call0_call0_v87 V0) (broadcastInDim S128x100000 ![] bcast_S_S128x100000 (constantI S_ 32 26#32)) := by
  unfold val0_5
  simp only [ops_4, TRef.binary, TRef.nullary, TRef.unary, TRef.toBuf, TRef.ofBuf, cast_eq]
  after_results_simp
  simp only [val0_4_main_call0_v5, val0_4_main_call0_call0_v67, val0_4_main_call0_call0_v1, val0_4_main_call0_call0_v61] <;> rfl
set_option maxRecDepth 8192 in
set_option maxHeartbeats 2000000 in
theorem val0_5_main_call0_call0_c_23 (V0 : Valuation τ sig (Elt F)) : val0_5 V0 (no_index (Proc.devRef .tc main_call0_call0_c_23)) = constantI S_ 32 6#32 := by
  unfold val0_5
  simp only [ops_4, TRef.binary, TRef.nullary, TRef.unary, TRef.toBuf, TRef.ofBuf, cast_eq]
  after_results_simp
  all_goals rfl

/-- The device's buffer contents after @main's first 180 operations. -/
def val0_6 (V0 : Valuation τ sig (Elt F)) : Valuation τ sig (Elt F) := after ops_5 (val0_5 V0)
/-- The buffers that window `ops_5`'s operations write. -/
abbrev ops_5_W : List (Ref sig .tc) := [main_call0_call0_v91, main_call0_call0_v92, main_call0_call0_v93, main_call0_call0_v94, main_call0_call0_v95, main_call0_call0_c_24, main_call0_call0_v96, main_call0_call0_v97, main_call0_call0_c_25, main_call0_call0_v98, main_call0_call0_v99, main_call0_call0_v100, main_call0_call0_v101, main_call0_call0_v102, main_call0_call0_v103, main_call0_call0_v104, main_call0_call0_v105, main_call0_call0_c_26, main_call0_call0_v106, main_call0_call0_v107, main_call0_call0_v108, main_call0_call0_c_27, main_call0_call0_v109, main_call0_call0_v110, main_call0_call0_c_28, main_call0_call0_v111, main_call0_call0_v112, main_call0_call0_v113, main_call0_call0_v114, main_call0_call0_v115]
set_option maxRecDepth 8192 in
theorem ops_5_writes : (ops_5 : List (HloOp τ sig (Elt F))).Forall fun op => op.writes ⊆ (ops_5_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_5` does not write keeps its contents through it. -/
theorem val0_6_keep (V0 : Valuation τ sig (Elt F)) (r : Ref sig .tc) (h : r ∉ ops_5_W) :
    val0_6 V0 (Proc.devRef .tc r) = val0_5 V0 (Proc.devRef .tc r) :=
  after_of_writes_sub ops_5 _ ops_5_writes h
theorem val0_6_main_arg0 (V0 : Valuation τ sig (Elt F)) : val0_6 V0 (no_index (Proc.devRef .tc main_arg0)) = V0 (Proc.devRef .tc main_arg0) :=
  (val0_6_keep V0 main_arg0 (by decide)).trans (val0_5_main_arg0 V0)
theorem val0_6_main_arg1 (V0 : Valuation τ sig (Elt F)) : val0_6 V0 (no_index (Proc.devRef .tc main_arg1)) = V0 (Proc.devRef .tc main_arg1) :=
  (val0_6_keep V0 main_arg1 (by decide)).trans (val0_5_main_arg1 V0)
theorem val0_6_main_call0_v2 (V0 : Valuation τ sig (Elt F)) : val0_6 V0 (no_index (Proc.devRef .tc main_call0_v2)) = res_main_call0_v2 V0 :=
  (val0_6_keep V0 main_call0_v2 (by decide)).trans (val0_5_main_call0_v2 V0)
theorem val0_6_main_call0_v3 (V0 : Valuation τ sig (Elt F)) : val0_6 V0 (no_index (Proc.devRef .tc main_call0_v3)) = broadcastInDim S1x1 ![] bcast_S_S1x1 (id (constant S_ .f32 0x3F800000#32)) :=
  (val0_6_keep V0 main_call0_v3 (by decide)).trans (val0_5_main_call0_v3 V0)
theorem val0_6_main_call0_v5 (V0 : Valuation τ sig (Elt F)) : val0_6 V0 (no_index (Proc.devRef .tc main_call0_v5)) = res_main_call0_v5 V0 :=
  (val0_6_keep V0 main_call0_v5 (by decide)).trans (val0_5_main_call0_v5 V0)
theorem val0_6_main_call0_v7 (V0 : Valuation τ sig (Elt F)) : val0_6 V0 (no_index (Proc.devRef .tc main_call0_v7)) = res_main_call0_v7 V0 :=
  (val0_6_keep V0 main_call0_v7 (by decide)).trans (val0_5_main_call0_v7 V0)
theorem val0_6_main_call0_call0_v1 (V0 : Valuation τ sig (Elt F)) : val0_6 V0 (no_index (Proc.devRef .tc main_call0_call0_v1)) = res_main_call0_call0_v1 V0 :=
  (val0_6_keep V0 main_call0_call0_v1 (by decide)).trans (val0_5_main_call0_call0_v1 V0)
set_option maxRecDepth 8192 in
set_option maxHeartbeats 2000000 in
theorem val0_6_main_call0_call0_v114 (V0 : Valuation τ sig (Elt F)) : val0_6 V0 (no_index (Proc.devRef .tc main_call0_call0_v114)) = res_main_call0_call0_v114 V0 := by
  unfold val0_6
  simp only [ops_5, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl
set_option maxRecDepth 8192 in
set_option maxHeartbeats 2000000 in
theorem val0_6_main_call0_call0_v115 (V0 : Valuation τ sig (Elt F)) : val0_6 V0 (no_index (Proc.devRef .tc main_call0_call0_v115)) = res_main_call0_call0_v115 V0 := by
  unfold val0_6
  simp only [ops_5, TRef.binary, TRef.nullary, TRef.unary, TRef.toBuf, TRef.ofBuf, cast_eq]
  after_results_simp
  simp only [val0_5_main_call0_v7, val0_5_main_call0_call0_c_23, val0_5_main_call0_call0_v87, val0_5_main_call0_call0_v90, val0_5_main_call0_call0_v88, val0_5_main_call0_v5] <;> rfl

/-- The device's buffer contents after @main's first 210 operations. -/
def val0_7 (V0 : Valuation τ sig (Elt F)) : Valuation τ sig (Elt F) := after ops_6 (val0_6 V0)
/-- The buffers that window `ops_6`'s operations write. -/
abbrev ops_6_W : List (Ref sig .tc) := [main_call0_call0_c_29, main_call0_call0_v116, main_call0_call0_v117, main_call0_call0_c_30, main_call0_call0_v118, main_call0_call0_v119, main_call0_call0_v120, main_call0_call0_v121, main_call0_call0_v122, main_call0_call0_c_31, main_call0_call0_v123, main_call0_call0_v124, main_call0_call0_c_32, main_call0_call0_v125, main_call0_call0_v126, main_call0_call0_v127, main_call0_call0_v128, main_call0_call0_v129, main_call0_call0_c_33, main_call0_call0_v130, main_call0_call0_v131, main_call0_call0_c_34, main_call0_call0_v132, main_call0_call0_v133, main_call0_call0_v134, main_call0_call0_v135, main_call0_call0_v136, main_call0_call0_v137, main_call0_call0_v138, main_call0_call0_v139]
set_option maxRecDepth 8192 in
theorem ops_6_writes : (ops_6 : List (HloOp τ sig (Elt F))).Forall fun op => op.writes ⊆ (ops_6_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_6` does not write keeps its contents through it. -/
theorem val0_7_keep (V0 : Valuation τ sig (Elt F)) (r : Ref sig .tc) (h : r ∉ ops_6_W) :
    val0_7 V0 (Proc.devRef .tc r) = val0_6 V0 (Proc.devRef .tc r) :=
  after_of_writes_sub ops_6 _ ops_6_writes h
theorem val0_7_main_arg0 (V0 : Valuation τ sig (Elt F)) : val0_7 V0 (no_index (Proc.devRef .tc main_arg0)) = V0 (Proc.devRef .tc main_arg0) :=
  (val0_7_keep V0 main_arg0 (by decide)).trans (val0_6_main_arg0 V0)
theorem val0_7_main_arg1 (V0 : Valuation τ sig (Elt F)) : val0_7 V0 (no_index (Proc.devRef .tc main_arg1)) = V0 (Proc.devRef .tc main_arg1) :=
  (val0_7_keep V0 main_arg1 (by decide)).trans (val0_6_main_arg1 V0)
theorem val0_7_main_call0_v2 (V0 : Valuation τ sig (Elt F)) : val0_7 V0 (no_index (Proc.devRef .tc main_call0_v2)) = res_main_call0_v2 V0 :=
  (val0_7_keep V0 main_call0_v2 (by decide)).trans (val0_6_main_call0_v2 V0)
theorem val0_7_main_call0_v3 (V0 : Valuation τ sig (Elt F)) : val0_7 V0 (no_index (Proc.devRef .tc main_call0_v3)) = broadcastInDim S1x1 ![] bcast_S_S1x1 (id (constant S_ .f32 0x3F800000#32)) :=
  (val0_7_keep V0 main_call0_v3 (by decide)).trans (val0_6_main_call0_v3 V0)
theorem val0_7_main_call0_v5 (V0 : Valuation τ sig (Elt F)) : val0_7 V0 (no_index (Proc.devRef .tc main_call0_v5)) = res_main_call0_v5 V0 :=
  (val0_7_keep V0 main_call0_v5 (by decide)).trans (val0_6_main_call0_v5 V0)
theorem val0_7_main_call0_call0_v1 (V0 : Valuation τ sig (Elt F)) : val0_7 V0 (no_index (Proc.devRef .tc main_call0_call0_v1)) = res_main_call0_call0_v1 V0 :=
  (val0_7_keep V0 main_call0_call0_v1 (by decide)).trans (val0_6_main_call0_call0_v1 V0)
set_option maxRecDepth 8192 in
set_option maxHeartbeats 2000000 in
theorem val0_7_main_call0_call0_v137 (V0 : Valuation τ sig (Elt F)) : val0_7 V0 (no_index (Proc.devRef .tc main_call0_call0_v137)) = addi (res_main_call0_call0_v129 V0) (broadcastInDim S128x100000 ![] bcast_S_S128x100000 (res_main_call0_v7 V0)) := by
  unfold val0_7
  simp only [ops_6, TRef.binary, TRef.nullary, TRef.unary, TRef.toBuf, TRef.ofBuf, cast_eq]
  after_results_simp
  simp only [val0_6_main_call0_v7, val0_6_main_call0_call0_v114, val0_6_main_call0_call0_v115] <;> rfl
set_option maxRecDepth 8192 in
set_option maxHeartbeats 2000000 in
theorem val0_7_main_call0_call0_v139 (V0 : Valuation τ sig (Elt F)) : val0_7 V0 (no_index (Proc.devRef .tc main_call0_call0_v139)) = addi (xori (res_main_call0_call0_v129 V0) (ori (Host.shli (res_main_call0_call0_v128 V0) (broadcastInDim S128x100000 ![] bcast_S_S128x100000 (constantI S_ 32 24#32))) (Host.shrui (res_main_call0_call0_v128 V0) (broadcastInDim S128x100000 ![] bcast_S_S128x100000 (constantI S_ 32 8#32))))) (broadcastInDim S128x100000 ![] bcast_S_S128x100000 (res_main_call0_call0_v1 V0)) := by
  unfold val0_7
  simp only [ops_6, TRef.binary, TRef.nullary, TRef.unary, TRef.toBuf, TRef.ofBuf, cast_eq]
  after_results_simp
  simp only [val0_6_main_call0_call0_v1, val0_6_main_call0_call0_v114, val0_6_main_call0_call0_v115] <;> rfl

/-- The device's buffer contents after @main's first 240 operations. -/
def val0_8 (V0 : Valuation τ sig (Elt F)) : Valuation τ sig (Elt F) := after ops_7 (val0_7 V0)
/-- The buffers that window `ops_7`'s operations write. -/
abbrev ops_7_W : List (Ref sig .tc) := [main_call0_call0_c_35, main_call0_call0_v140, main_call0_call0_v141, main_call0_call0_v142, main_call0_call0_c_36, main_call0_call0_v143, main_call0_call0_v144, main_call0_call0_c_37, main_call0_call0_v145, main_call0_call0_v146, main_call0_call0_v147, main_call0_call0_v148, main_call0_call0_v149, main_call0_call0_c_38, main_call0_call0_v150, main_call0_call0_v151, main_call0_call0_c_39, main_call0_call0_v152, main_call0_call0_v153, main_call0_call0_v154, main_call0_call0_v155, main_call0_call0_v156, main_call0_call0_c_40, main_call0_call0_v157, main_call0_call0_v158, main_call0_call0_c_41, main_call0_call0_v159, main_call0_call0_v160, main_call0_call0_v161, main_call0_call0_v162]
set_option maxRecDepth 8192 in
theorem ops_7_writes : (ops_7 : List (HloOp τ sig (Elt F))).Forall fun op => op.writes ⊆ (ops_7_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_7` does not write keeps its contents through it. -/
theorem val0_8_keep (V0 : Valuation τ sig (Elt F)) (r : Ref sig .tc) (h : r ∉ ops_7_W) :
    val0_8 V0 (Proc.devRef .tc r) = val0_7 V0 (Proc.devRef .tc r) :=
  after_of_writes_sub ops_7 _ ops_7_writes h
theorem val0_8_main_arg0 (V0 : Valuation τ sig (Elt F)) : val0_8 V0 (no_index (Proc.devRef .tc main_arg0)) = V0 (Proc.devRef .tc main_arg0) :=
  (val0_8_keep V0 main_arg0 (by decide)).trans (val0_7_main_arg0 V0)
theorem val0_8_main_arg1 (V0 : Valuation τ sig (Elt F)) : val0_8 V0 (no_index (Proc.devRef .tc main_arg1)) = V0 (Proc.devRef .tc main_arg1) :=
  (val0_8_keep V0 main_arg1 (by decide)).trans (val0_7_main_arg1 V0)
theorem val0_8_main_call0_v2 (V0 : Valuation τ sig (Elt F)) : val0_8 V0 (no_index (Proc.devRef .tc main_call0_v2)) = res_main_call0_v2 V0 :=
  (val0_8_keep V0 main_call0_v2 (by decide)).trans (val0_7_main_call0_v2 V0)
theorem val0_8_main_call0_v3 (V0 : Valuation τ sig (Elt F)) : val0_8 V0 (no_index (Proc.devRef .tc main_call0_v3)) = broadcastInDim S1x1 ![] bcast_S_S1x1 (id (constant S_ .f32 0x3F800000#32)) :=
  (val0_8_keep V0 main_call0_v3 (by decide)).trans (val0_7_main_call0_v3 V0)
theorem val0_8_main_call0_v5 (V0 : Valuation τ sig (Elt F)) : val0_8 V0 (no_index (Proc.devRef .tc main_call0_v5)) = res_main_call0_v5 V0 :=
  (val0_8_keep V0 main_call0_v5 (by decide)).trans (val0_7_main_call0_v5 V0)
theorem val0_8_main_call0_call0_v1 (V0 : Valuation τ sig (Elt F)) : val0_8 V0 (no_index (Proc.devRef .tc main_call0_call0_v1)) = res_main_call0_call0_v1 V0 :=
  (val0_8_keep V0 main_call0_call0_v1 (by decide)).trans (val0_7_main_call0_call0_v1 V0)
set_option maxRecDepth 8192 in
set_option maxHeartbeats 2000000 in
theorem val0_8_main_call0_call0_v156 (V0 : Valuation τ sig (Elt F)) : val0_8 V0 (no_index (Proc.devRef .tc main_call0_call0_v156)) = res_main_call0_call0_v156 V0 := by
  unfold val0_8
  simp only [ops_7, TRef.binary, TRef.nullary, TRef.unary, TRef.toBuf, TRef.ofBuf, cast_eq]
  after_results_simp
  simp only [val0_7_main_call0_call0_v139, val0_7_main_call0_call0_v137] <;> rfl
set_option maxRecDepth 8192 in
set_option maxHeartbeats 2000000 in
theorem val0_8_main_call0_call0_v162 (V0 : Valuation τ sig (Elt F)) : val0_8 V0 (no_index (Proc.devRef .tc main_call0_call0_v162)) = res_main_call0_call0_v162 V0 := by
  unfold val0_8
  simp only [ops_7, TRef.binary, TRef.nullary, TRef.unary, TRef.toBuf, TRef.ofBuf, cast_eq]
  after_results_simp
  simp only [val0_7_main_call0_call0_v139, val0_7_main_call0_call0_v137] <;> rfl

/-- The device's buffer contents after @main's first 270 operations. -/
def val0_9 (V0 : Valuation τ sig (Elt F)) : Valuation τ sig (Elt F) := after ops_8 (val0_8 V0)
/-- The buffers that window `ops_8`'s operations write. -/
abbrev ops_8_W : List (Ref sig .tc) := [main_call0_call0_v163, main_call0_call0_c_42, main_call0_call0_v164, main_call0_call0_v165, main_call0_call0_c_43, main_call0_call0_v166, main_call0_call0_v167, main_call0_call0_v168, main_call0_call0_v169, main_call0_call0_v170, main_call0_v19_0, main_call0_call0_v172, main_call0_call0_v173, main_call0_call0_c_44, main_call0_call0_v174, main_call0_v19_1, main_call0_v20, main_call0_c_2, main_call0_v21, main_call0_v22, main_call0_c_3, main_call0_v23, main_call0_v24, main_call0_v25, main_call0_cst, main_call0_v26, main_call0_v27, main_call0_v28, main_call0_v29, main_call0_v30]
set_option maxRecDepth 8192 in
theorem ops_8_writes : (ops_8 : List (HloOp τ sig (Elt F))).Forall fun op => op.writes ⊆ (ops_8_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_8` does not write keeps its contents through it. -/
theorem val0_9_keep (V0 : Valuation τ sig (Elt F)) (r : Ref sig .tc) (h : r ∉ ops_8_W) :
    val0_9 V0 (Proc.devRef .tc r) = val0_8 V0 (Proc.devRef .tc r) :=
  after_of_writes_sub ops_8 _ ops_8_writes h
theorem val0_9_main_arg0 (V0 : Valuation τ sig (Elt F)) : val0_9 V0 (no_index (Proc.devRef .tc main_arg0)) = V0 (Proc.devRef .tc main_arg0) :=
  (val0_9_keep V0 main_arg0 (by decide)).trans (val0_8_main_arg0 V0)
theorem val0_9_main_arg1 (V0 : Valuation τ sig (Elt F)) : val0_9 V0 (no_index (Proc.devRef .tc main_arg1)) = V0 (Proc.devRef .tc main_arg1) :=
  (val0_9_keep V0 main_arg1 (by decide)).trans (val0_8_main_arg1 V0)
theorem val0_9_main_call0_v2 (V0 : Valuation τ sig (Elt F)) : val0_9 V0 (no_index (Proc.devRef .tc main_call0_v2)) = res_main_call0_v2 V0 :=
  (val0_9_keep V0 main_call0_v2 (by decide)).trans (val0_8_main_call0_v2 V0)
set_option maxRecDepth 8192 in
set_option maxHeartbeats 2000000 in
theorem val0_9_main_call0_v30 (V0 : Valuation τ sig (Elt F)) : val0_9 V0 (no_index (Proc.devRef .tc main_call0_v30)) = mulf (subf (bitcastToFloat (F := F) .f32 (ori (Host.shrui (xori (addi (res_main_call0_call0_v163 V0) (broadcastInDim S128x100000 ![] bcast_S_S128x100000 (res_main_call0_call0_v1 V0))) (addi (addi (xori (res_main_call0_call0_v163 V0) (ori (Host.shli (res_main_call0_call0_v162 V0) (broadcastInDim S128x100000 ![] bcast_S_S128x100000 (constantI S_ 32 6#32))) (Host.shrui (res_main_call0_call0_v162 V0) (broadcastInDim S128x100000 ![] bcast_S_S128x100000 (constantI S_ 32 26#32))))) (broadcastInDim S128x100000 ![] bcast_S_S128x100000 (res_main_call0_v5 V0))) (broadcastInDim S128x100000 ![] bcast_S_S128x100000 (constantI S_ 32 5#32)))) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (res_main_call0_v2 V0))) := by
  unfold val0_9
  simp only [ops_8, TRef.binary, TRef.nullary, TRef.unary, TRef.toBuf, TRef.ofBuf, cast_eq]
  after_results_simp
  simp only [val0_8_main_call0_v2, val0_8_main_call0_v3, val0_8_main_call0_v5, val0_8_main_call0_call0_v162, val0_8_main_call0_call0_v156, val0_8_main_call0_call0_v1] <;> rfl

/-- The device's buffer contents after @main's first 300 operations. -/
def val0_10 (V0 : Valuation τ sig (Elt F)) : Valuation τ sig (Elt F) := after ops_9 (val0_9 V0)
/-- The buffers that window `ops_9`'s operations write. -/
abbrev ops_9_W : List (Ref sig .tc) := [main_call0_v31, main_call0_v32, main_call0_v33, main_v7, main_cst_3, main_v8, main_v9, main_v10, main_v11, main_v12, main_v13, main_v14, main_call1_v0, main_call1_cst, main_call1_c, main_call1_v1_0, main_v15, main_call2_v0, main_call2_v1, main_call2_v2, main_call2_v3, main_call2_v4, main_v16, main_call3_cst, main_call3_v0, main_call3_cst_0, main_call3_v1, main_call3_v2, main_call3_v3, main_call3_v4]
set_option maxRecDepth 8192 in
theorem ops_9_writes : (ops_9 : List (HloOp τ sig (Elt F))).Forall fun op => op.writes ⊆ (ops_9_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_9` does not write keeps its contents through it. -/
theorem val0_10_keep (V0 : Valuation τ sig (Elt F)) (r : Ref sig .tc) (h : r ∉ ops_9_W) :
    val0_10 V0 (Proc.devRef .tc r) = val0_9 V0 (Proc.devRef .tc r) :=
  after_of_writes_sub ops_9 _ ops_9_writes h
theorem val0_10_main_arg0 (V0 : Valuation τ sig (Elt F)) : val0_10 V0 (no_index (Proc.devRef .tc main_arg0)) = V0 (Proc.devRef .tc main_arg0) :=
  (val0_10_keep V0 main_arg0 (by decide)).trans (val0_9_main_arg0 V0)
theorem val0_10_main_arg1 (V0 : Valuation τ sig (Elt F)) : val0_10 V0 (no_index (Proc.devRef .tc main_arg1)) = V0 (Proc.devRef .tc main_arg1) :=
  (val0_10_keep V0 main_arg1 (by decide)).trans (val0_9_main_arg1 V0)
set_option maxRecDepth 8192 in
set_option maxHeartbeats 2000000 in
theorem val0_10_main_v15 (V0 : Valuation τ sig (Elt F)) : val0_10 V0 (no_index (Proc.devRef .tc main_v15)) = res_main_v15 V0 := by
  unfold val0_10
  simp only [ops_9, TRef.binary, TRef.nullary, TRef.quaternary, TRef.unary, TRef.toBuf, TRef.ofBuf, cast_eq]
  after_results_simp
  simp only [val0_9_main_arg0, val0_9_main_call0_v2, val0_9_main_call0_v30] <;> rfl
set_option maxRecDepth 8192 in
set_option maxHeartbeats 2000000 in
theorem val0_10_main_v16 (V0 : Valuation τ sig (Elt F)) : val0_10 V0 (no_index (Proc.devRef .tc main_v16)) = uitofp .f32 (cmpi .eq (broadcastInDim S128x100000 ![0, 1] bcast_S128x1_S128x100000_0_1 (broadcastInDim S128x1 ![0] bcast_S128_S128x1_0 (res_main_v15 V0))) (broadcastInDim S128x100000 ![0, 1] bcast_S1x100000_S128x100000_0_1 (iotaInDim S1x100000 32 1))) := by
  unfold val0_10
  simp only [ops_9, TRef.binary, TRef.nullary, TRef.quaternary, TRef.unary, TRef.toBuf, TRef.ofBuf, cast_eq]
  after_results_simp
  simp only [val0_9_main_arg0, val0_9_main_call0_v2, val0_9_main_call0_v30] <;> rfl
set_option maxRecDepth 8192 in
set_option maxHeartbeats 2000000 in
theorem val0_10_main_call3_v4 (V0 : Valuation τ sig (Elt F)) : val0_10 V0 (no_index (Proc.devRef .tc main_call3_v4)) = broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (V0 (Proc.devRef .tc main_arg0)) (constant S_ .f32 0xFF800000#32) reducesTo_S128x100000_S128_d1 h_S_))) := by
  unfold val0_10
  simp only [ops_9, TRef.binary, TRef.nullary, TRef.quaternary, TRef.unary, TRef.toBuf, TRef.ofBuf, cast_eq]
  after_results_simp
  simp only [val0_9_main_arg0] <;> rfl

/-- The device's buffer contents after @main's first 330 operations. -/
def val0_11 (V0 : Valuation τ sig (Elt F)) : Valuation τ sig (Elt F) := after ops_10 (val0_10 V0)
/-- The buffers that window `ops_10`'s operations write. -/
abbrev ops_10_W : List (Ref sig .tc) := [main_call3_v5, main_call3_v6, main_call3_cst_1, main_call3_v7, main_call3_v8, main_call3_v9, main_call3_v10, main_v17, main_v18, main_cst_4, main_v19, main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13]
set_option maxRecDepth 8192 in
theorem ops_10_writes : (ops_10 : List (HloOp τ sig (Elt F))).Forall fun op => op.writes ⊆ (ops_10_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_10` does not write keeps its contents through it. -/
theorem val0_11_keep (V0 : Valuation τ sig (Elt F)) (r : Ref sig .tc) (h : r ∉ ops_10_W) :
    val0_11 V0 (Proc.devRef .tc r) = val0_10 V0 (Proc.devRef .tc r) :=
  after_of_writes_sub ops_10 _ ops_10_writes h
theorem val0_11_main_arg0 (V0 : Valuation τ sig (Elt F)) : val0_11 V0 (no_index (Proc.devRef .tc main_arg0)) = V0 (Proc.devRef .tc main_arg0) :=
  (val0_11_keep V0 main_arg0 (by decide)).trans (val0_10_main_arg0 V0)
theorem val0_11_main_arg1 (V0 : Valuation τ sig (Elt F)) : val0_11 V0 (no_index (Proc.devRef .tc main_arg1)) = V0 (Proc.devRef .tc main_arg1) :=
  (val0_11_keep V0 main_arg1 (by decide)).trans (val0_10_main_arg1 V0)
set_option maxRecDepth 8192 in
set_option maxHeartbeats 2000000 in
theorem val0_11_main_v19 (V0 : Valuation τ sig (Elt F)) : val0_11 V0 (no_index (Proc.devRef .tc main_v19)) = Host.reduceAdd (mulf (uitofp .f32 (cmpi .eq (broadcastInDim S128x100000 ![0, 1] bcast_S128x1_S128x100000_0_1 (broadcastInDim S128x1 ![0] bcast_S128_S128x1_0 (res_main_v15 V0))) (broadcastInDim S128x100000 ![0, 1] bcast_S1x100000_S128x100000_0_1 (iotaInDim S1x100000 32 1)))) (subf (res_main_call3_v5 V0) (broadcastInDim S128x100000 ![0, 1] bcast_S128x1_S128x100000_0_1 (Host.log (broadcastInDim S128x1 ![0] bcast_S128_S128x1_0 (Host.reduceAdd (Host.exp (res_main_call3_v5 V0)) (constant S_ .f32 0x00000000#32) reducesTo_S128x100000_S128_d1 h_S_)))))) (constant S_ .f32 0x00000000#32) reducesTo_S128x100000_S128_d1 h_S_ := by
  unfold val0_11
  simp only [ops_10, TRef.binary, TRef.nullary, TRef.ternary, TRef.unary, TRef.toBuf, TRef.ofBuf, cast_eq]
  after_results_simp
  simp only [val0_10_main_call3_v4, val0_10_main_arg0, val0_10_main_v16] <;> rfl
set_option maxRecDepth 8192 in
set_option maxHeartbeats 2000000 in
theorem val0_11_main_call4_v12 (V0 : Valuation τ sig (Elt F)) : val0_11 V0 (no_index (Proc.devRef .tc main_call4_v12)) = Host.reduce IntOp.andi (andi (cmpi .sge (res_main_call4_v5 V0) (broadcastInDim S128x1 ![] bcast_S_S128x1 (constantI S_ 32 0#32))) (cmpi .sle (res_main_call4_v5 V0) (broadcastInDim S128x1 ![0, 1] bcast_S1x1_S128x1_0_1 (broadcastInDim S1x1 ![1] bcast_S1_S1x1_1 (constantI S1 32 99999#32))))) (constantI S_ 1 1#1) reducesTo_S128x1_S128_d1 h_S_ := by
  unfold val0_11
  simp only [ops_10, TRef.binary, TRef.nullary, TRef.ternary, TRef.unary, TRef.toBuf, TRef.ofBuf, cast_eq]
  after_results_simp
  simp only [val0_10_main_v15] <;> rfl
set_option maxRecDepth 8192 in
set_option maxHeartbeats 2000000 in
theorem val0_11_main_call4_v13 (V0 : Valuation τ sig (Elt F)) : val0_11 V0 (no_index (Proc.devRef .tc main_call4_v13)) = Host.gather gather_S100000_S128x1_S128_n_0_n_n_0_1_1 (V0 (Proc.devRef .tc main_arg1)) (res_main_call4_v5 V0) := by
  unfold val0_11
  simp only [ops_10, TRef.binary, TRef.nullary, TRef.ternary, TRef.unary, TRef.toBuf, TRef.ofBuf, cast_eq]
  after_results_simp
  simp only [val0_10_main_v15, val0_10_main_arg1] <;> rfl

/-- The device's buffer contents after @main's 335 operations. -/
def val1 (V0 : Valuation τ sig (Elt F)) : Valuation τ sig (Elt F) := after ops_11 (val0_11 V0)
/-- The buffers that window `ops_11`'s operations write. -/
abbrev ops_11_W : List (Ref sig .tc) := [main_call4_c_4, main_call4_v14, main_v20, main_v21, main_v22]
set_option maxRecDepth 8192 in
theorem ops_11_writes : (ops_11 : List (HloOp τ sig (Elt F))).Forall fun op => op.writes ⊆ (ops_11_W.map (Proc.devRef (τ := τ) .tc)).toFinset := by
  simp only [List.Forall]; refine ⟨?_, ?_, ?_, ?_, ?_⟩ <;> simp only [nullary_writes, unary_writes, binary_writes, ternary_writes, quaternary_writes, reshape_writes, binaryIndexed_writes, nary_writes, unaryIndexed_writes, Finset.singleton_subset_iff, List.mem_toFinset] <;> exact List.mem_map_of_mem (by decide)
/-- A buffer that window `ops_11` does not write keeps its contents through it. -/
theorem val1_keep (V0 : Valuation τ sig (Elt F)) (r : Ref sig .tc) (h : r ∉ ops_11_W) :
    val1 V0 (Proc.devRef .tc r) = val0_11 V0 (Proc.devRef .tc r) :=
  after_of_writes_sub ops_11 _ ops_11_writes h
theorem val1_main_arg0 (V0 : Valuation τ sig (Elt F)) : val1 V0 (no_index (Proc.devRef .tc main_arg0)) = V0 (Proc.devRef .tc main_arg0) :=
  (val1_keep V0 main_arg0 (by decide)).trans (val0_11_main_arg0 V0)
theorem val1_main_arg1 (V0 : Valuation τ sig (Elt F)) : val1 V0 (no_index (Proc.devRef .tc main_arg1)) = V0 (Proc.devRef .tc main_arg1) :=
  (val1_keep V0 main_arg1 (by decide)).trans (val0_11_main_arg1 V0)
set_option maxRecDepth 8192 in
theorem val1_main_v21 (V0 : Valuation τ sig (Elt F)) : val1 V0 (no_index (Proc.devRef .tc main_v21)) = shapeCast _ (Host.reduceAdd (mulf (uitofp .f32 (cmpi .eq (broadcastInDim S128x100000 ![0, 1] bcast_S128x1_S128x100000_0_1 (broadcastInDim S128x1 ![0] bcast_S128_S128x1_0 (res_main_v15 V0))) (broadcastInDim S128x100000 ![0, 1] bcast_S1x100000_S128x100000_0_1 (iotaInDim S1x100000 32 1)))) (subf (res_main_call3_v5 V0) (broadcastInDim S128x100000 ![0, 1] bcast_S128x1_S128x100000_0_1 (Host.log (broadcastInDim S128x1 ![0] bcast_S128_S128x1_0 (Host.reduceAdd (Host.exp (res_main_call3_v5 V0)) (constant S_ .f32 0x00000000#32) reducesTo_S128x100000_S128_d1 h_S_)))))) (constant S_ .f32 0x00000000#32) reducesTo_S128x100000_S128_d1 h_S_) shapeCasts_S128_S128x1 := by
  unfold val1
  simp only [ops_11, TRef.nullary, TRef.ternary, TRef.unary, TRef.toBuf, TRef.ofBuf, cast_eq]
  after_results_simp
  simp only [val0_11_main_v19] <;> rfl
set_option maxRecDepth 8192 in
theorem val1_main_v22 (V0 : Valuation τ sig (Elt F)) : val1 V0 (no_index (Proc.devRef .tc main_v22)) = shapeCast _ (select (Host.reduce IntOp.andi (andi (cmpi .sge (res_main_call4_v5 V0) (broadcastInDim S128x1 ![] bcast_S_S128x1 (constantI S_ 32 0#32))) (cmpi .sle (res_main_call4_v5 V0) (broadcastInDim S128x1 ![0, 1] bcast_S1x1_S128x1_0_1 (broadcastInDim S1x1 ![1] bcast_S1_S1x1_1 (constantI S1 32 99999#32))))) (constantI S_ 1 1#1) reducesTo_S128x1_S128_d1 h_S_) (Host.gather gather_S100000_S128x1_S128_n_0_n_n_0_1_1 (V0 (Proc.devRef .tc main_arg1)) (res_main_call4_v5 V0)) (broadcastInDim S128 ![] bcast_S_S128 (constantI S_ 32 2147483648#32))) shapeCasts_S128_S128x1 := by
  unfold val1
  simp only [ops_11, TRef.nullary, TRef.ternary, TRef.unary, TRef.toBuf, TRef.ofBuf, cast_eq]
  after_results_simp
  simp only [val0_11_main_call4_v13, val0_11_main_call4_v12] <;> rfl

theorem after_ops (V0 : Valuation τ sig (Elt F)) : after ops V0 = val1 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = shapeCast _ (Host.reduceAdd (mulf (uitofp .f32 (cmpi .eq (broadcastInDim S128x100000 ![0, 1] bcast_S128x1_S128x100000_0_1 (broadcastInDim S128x1 ![0] bcast_S128_S128x1_0 (res_main_v15 (launchContents m c)))) (broadcastInDim S128x100000 ![0, 1] bcast_S1x100000_S128x100000_0_1 (iotaInDim S1x100000 32 1)))) (subf (res_main_call3_v5 (launchContents m c)) (broadcastInDim S128x100000 ![0, 1] bcast_S128x1_S128x100000_0_1 (Host.log (broadcastInDim S128x1 ![0] bcast_S128_S128x1_0 (Host.reduceAdd (Host.exp (res_main_call3_v5 (launchContents m c))) (constant S_ .f32 0x00000000#32) reducesTo_S128x100000_S128_d1 h_S_)))))) (constant S_ .f32 0x00000000#32) reducesTo_S128x100000_S128_d1 h_S_) shapeCasts_S128_S128x1
      ∧ r.2.mem ((c.tc : Thread nD τ).loc main_v22) = shapeCast _ (select (Host.reduce IntOp.andi (andi (cmpi .sge (res_main_call4_v5 (launchContents m c)) (broadcastInDim S128x1 ![] bcast_S_S128x1 (constantI S_ 32 0#32))) (cmpi .sle (res_main_call4_v5 (launchContents m c)) (broadcastInDim S128x1 ![0, 1] bcast_S1x1_S128x1_0_1 (broadcastInDim S1x1 ![1] bcast_S1_S1x1_1 (constantI S1 32 99999#32))))) (constantI S_ 1 1#1) reducesTo_S128x1_S128_d1 h_S_) (Host.gather gather_S100000_S128x1_S128_n_0_n_n_0_1_1 ((launchContents m c) (Proc.devRef .tc main_arg1)) (res_main_call4_v5 (launchContents m c))) (broadcastInDim S128 ![] bcast_S_S128 (constantI S_ 32 2147483648#32))) shapeCasts_S128_S128x1
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans ((congrFun (after_ops (launchContents m c)) (Proc.devRef .tc main_v21)).trans (val1_main_v21 (launchContents m c))),
      (h c main_v22).trans ((congrFun (after_ops (launchContents m c)) (Proc.devRef .tc main_v22)).trans (val1_main_v22 (launchContents m c))),
      (h c main_arg0).trans ((congrFun (after_ops (launchContents m c)) (Proc.devRef .tc main_arg0)).trans (val1_main_arg0 (launchContents m c))),
      (h c main_arg1).trans ((congrFun (after_ops (launchContents m c)) (Proc.devRef .tc main_arg1)).trans (val1_main_arg1 (launchContents m c)))⟩)
    (run_seq scopedRefs_eq scopedSems_eq defs main (fun _ => ops) main_eq (fun _ => ops_sub) m ρ fun _ => ops_fresh)

end Cert.ReferenceIdeal.Value

end
-- ==== Proof.Frames.lean ====
module

public import proofs.«01_k».proof.Defs
public import proofs.«01_k».proof.Proof.Gen.Kernel.Frame
public import proofs.«01_k».proof.Proof.Gen.KernelIdeal.Frame
public import proofs.«01_k».proof.Proof.RefRun
public import Idealize.ShloMosaic.Lib.Quiescent

@[expose] public section

noncomputable section

open Idealize.ShloMosaic Idealize.ShloMosaic.TcCoe Idealize.SL.Sem

/-! ## The three programs run, leave their arguments alone and leave every semaphore at zero -/

namespace Cert.Proof

theorem frame_k : Cert.quiescent_Kernel (hKernel := Cert.Kernel.Gen.facts) := fun m ρ _ => Cert.Kernel.Gen.frame m ρ

theorem frame_i : Cert.quiescent_KernelIdeal (hKernelIdeal := Cert.KernelIdeal.Gen.facts) :=
  fun m ρ _ => Cert.KernelIdeal.Gen.frame m ρ

theorem frame_r : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

end Cert.Proof

end
-- ==== Proof.Words.lean ====
module

public import proofs.«01_k».proof.Proof.Gen.KernelIdeal
public import Idealize.ShloMosaic.Lib.Tactic

@[expose] public section

noncomputable section

open Idealize.ShloMosaic Idealize.ShloMosaic.TcCoe Idealize.SL.Sem

/-! ## The random words, on whole vectors and on single words -/

namespace Cert.Words

/-- A word rotated left: `d` places up, `e = 32 - d` places down. -/
def rot (d e x : BitVec 32) : BitVec 32 := IntOp.shli .vector x d ||| IntOp.shrui .vector x e

/-- One round on a pair of words. -/
def rnd (d e : BitVec 32) (p : BitVec 32 × BitVec 32) : BitVec 32 × BitVec 32 :=
  (p.1 + p.2, rot d e p.2 ^^^ (p.1 + p.2))

/-- The keys added to a pair of words. -/
def inj (a b : BitVec 32) (p : BitVec 32 × BitVec 32) : BitVec 32 × BitVec 32 := (p.1 + a, p.2 + b)

/-- Four rounds with the first list of rotations. -/
def even (p : BitVec 32 × BitVec 32) : BitVec 32 × BitVec 32 :=
  rnd 6#32 26#32 (rnd 26#32 6#32 (rnd 15#32 17#32 (rnd 13#32 19#32 p)))

/-- Four rounds with the second list of rotations. -/
def odd (p : BitVec 32 × BitVec 32) : BitVec 32 × BitVec 32 :=
  rnd 24#32 8#32 (rnd 16#32 16#32 (rnd 29#32 3#32 (rnd 17#32 15#32 p)))

/-- The twenty rounds and five key additions from the pair `(0, x + 42)`. -/
def mix (x : BitVec 32) : BitVec 32 × BitVec 32 :=
  inj 466689008#32 5#32 (even (inj 42#32 466689012#32 (odd (inj 0#32 45#32 (even
    (inj 466689008#32 2#32 (odd (inj 42#32 466689009#32 (even (0#32, x + 42#32))))))))))

/-- The random word at counter `x`. -/
def word (x : BitVec 32) : BitVec 32 := (mix x).1 ^^^ (mix x).2

/-- The word of a number in `[1, 2)`: the top 23 random bits under the exponent of one. -/
def mant (x : BitVec 32) : BitVec 32 := IntOp.shrui .vector (word x) 9#32 ||| 1065353216#32

section Vec
variable {S : Shape}

/-- `rnd` on vectors, in the kernel's operations. -/
def vrnd (d e : BitVec 32) (p : IVec S 32 × IVec S 32) : IVec S 32 × IVec S 32 :=
  (addi p.1 p.2, xori (ori (shli p.2 (broadcast S d)) (shrui p.2 (broadcast S e))) (addi p.1 p.2))

/-- `inj` on vectors. -/
def vinj (a b : BitVec 32) (p : IVec S 32 × IVec S 32) : IVec S 32 × IVec S 32 :=
  (addi p.1 (broadcast S a), addi p.2 (broadcast S b))

/-- `even` on vectors. -/
def veven (p : IVec S 32 × IVec S 32) : IVec S 32 × IVec S 32 :=
  vrnd 6#32 26#32 (vrnd 26#32 6#32 (vrnd 15#32 17#32 (vrnd 13#32 19#32 p)))

/-- `odd` on vectors. -/
def vodd (p : IVec S 32 × IVec S 32) : IVec S 32 × IVec S 32 :=
  vrnd 24#32 8#32 (vrnd 16#32 16#32 (vrnd 29#32 3#32 (vrnd 17#32 15#32 p)))

/-- `mix` on vectors. -/
def vmix (x : IVec S 32) : IVec S 32 × IVec S 32 :=
  vinj 466689008#32 5#32 (veven (vinj 42#32 466689012#32 (vodd (vinj 0#32 45#32 (veven
    (vinj 466689008#32 2#32 (vodd (vinj 42#32 466689009#32 (veven (broadcast S 0#32, addi x (broadcast S 42#32)))))))))))

/-- `mant` on vectors. -/
def vmant (x : IVec S 32) : IVec S 32 :=
  ori (shrui (xori (vmix x).1 (vmix x).2) (broadcast S 9#32)) (broadcast S 1065353216#32)

theorem vrnd_at (d e : BitVec 32) (p : IVec S 32 × IVec S 32) (j : S.Idx) :
    ((vrnd d e p).1 j, (vrnd d e p).2 j) = rnd d e (p.1 j, p.2 j) := rfl

theorem vinj_at (a b : BitVec 32) (p : IVec S 32 × IVec S 32) (j : S.Idx) :
    ((vinj a b p).1 j, (vinj a b p).2 j) = inj a b (p.1 j, p.2 j) := rfl

theorem veven_at (p : IVec S 32 × IVec S 32) (j : S.Idx) :
    ((veven p).1 j, (veven p).2 j) = even (p.1 j, p.2 j) := by
  unfold veven even; simp only [vrnd_at]

theorem vodd_at (p : IVec S 32 × IVec S 32) (j : S.Idx) :
    ((vodd p).1 j, (vodd p).2 j) = odd (p.1 j, p.2 j) := by
  unfold vodd odd; simp only [vrnd_at]

theorem vmix_at (x : IVec S 32) (j : S.Idx) : ((vmix x).1 j, (vmix x).2 j) = mix (x j) := by
  unfold vmix mix; simp only [vinj_at, veven_at, vodd_at]; rfl

theorem vmant_at (x : IVec S 32) (j : S.Idx) : vmant x j = mant (x j) := by
  show IntOp.shrui .vector ((vmix x).1 j ^^^ (vmix x).2 j) 9#32 ||| 1065353216#32 = _
  unfold mant word
  rw [← vmix_at]

end Vec

section Noise
variable {F : FTy → Type} [FloatOps F] {S : Shape}

/-- The noise made of words of numbers in `[1, 2)`, in the kernel's operations. -/
def vnoise (w : IVec S 32) : FVec F S .f32 :=
  subf (broadcast S (Scalar.ofBits .f32 0x00000000#32)) (log (subf (broadcast S (Scalar.ofBits .f32 0x00000000#32))
    (log (addf (subf (bitcastToFloat .f32 w) (broadcast S (Scalar.ofBits .f32 0x3F800000#32)))
      (broadcast S (Scalar.ofBits .f32 0x00800000#32))))))

end Noise

end Cert.Words
end
-- ==== Proof.KStep.lean ====
module

public import proofs.«01_k».proof.Proof.Words
public import proofs.«01_k».proof.Proof.Gen.KernelIdeal.Frame
public import proofs.«01_k».proof.Proof.Gen.KernelIdeal.Value
public import Idealize.ShloMosaic.Lib.Pipeline.Value
public import Idealize.ShloMosaic.Lib.Tactic
import all proofs.«01_k».proof.Proof.Gen.KernelIdeal.Loops
import all proofs.«01_k».proof.Proof.Gen.KernelIdeal.Frame.RunA

@[expose] public section

noncomputable section

open Idealize.ShloMosaic Idealize.ShloMosaic.TcCoe Idealize.SL.Sem

namespace Cert.KernelIdeal.Value

open Cert.KernelIdeal Cert.KernelIdeal.Gen Cert.Words

variable {F : FTy → Type} [FloatOps F]

/-- What the kernel carries from chunk to chunk: the greatest logit of each row, the sum of the exponentials over it,
    the greatest noisy logit, its column and the action there. -/
abbrev Carry (F : FTy → Type) : Type :=
  FVec F S8x1 .f32 × FVec F S8x1 .f32 × FVec F S8x1 .f32 × IVec S8x1 32 × IVec S8x1 32

section Chunk
variable {n : ℕ} (hr : (⟨2, ![8, n]⟩ : Shape).Reduces [1] S8) (hb : S8x1.Broadcasts ⟨2, ![8, n]⟩)
  (hc : S8.ShapeCasts S8x1) (ha : (⟨2, ![1, n]⟩ : Shape).Broadcasts ⟨2, ![8, n]⟩)
  (hs : (⟨2, ![1, n]⟩ : Shape).ShapeCasts ⟨2, ![1, n]⟩)
  (x : FVec F ⟨2, ![8, n]⟩ .f32) (a : IVec ⟨2, ![1, n]⟩ 32) (row col : IVec ⟨2, ![8, n]⟩ 32)

/-- The noisy logits of a chunk. -/
def noisy : FVec F ⟨2, ![8, n]⟩ .f32 :=
  addf x (vnoise (vmant (addi (muli row (broadcast _ 100000#32)) col)))

/-- The chunk's row maxima. -/
def rowMax : FVec F S8x1 .f32 :=
  shapeCast S8x1 (multiReduction .maximumf [1] S8 x 0xFF800000#32 hr (.inl rfl) rfl) hc

/-- The first column at which a chunk's row reaches the value `b`. -/
def firstCol (z : FVec F ⟨2, ![8, n]⟩ .f32) (b : FVec F S8x1 .f32) : IVec S8x1 32 :=
  shapeCast S8x1 (multiReductionI .minsi [1] S8
    (select (cmpf .oeq z (broadcastTo _ b hb)) col (broadcast _ 100000#32)) 2147483647#32 hr rfl) hc

/-- The action at a column, picked out by a sum. -/
def pick (b : IVec S8x1 32) : IVec S8x1 32 :=
  shapeCast S8x1 (multiReductionI .add [1] S8
    (select (cmpi .eq col (broadcastTo _ b hb)) (broadcastTo _ (shapeCast _ (shapeCast _ a hs) hs) ha) (broadcast _ 0#32))
    0#32 hr rfl) hc

/-- The row sums of the exponentials of the logits less `b`. -/
def expSum (b : FVec F S8x1 .f32) : FVec F S8x1 .f32 :=
  shapeCast S8x1 (multiReduction .add [1] S8 (exp (subf x (broadcastTo _ b hb))) 0x00000000#32 hr (.inl rfl) rfl) hc

/-- The carry after a chunk. -/
def step (acc : Carry F) : Carry F :=
  let bm := rowMax hr hc x
  let z := noisy x row col
  let bz := rowMax hr hc z
  let bi := firstCol hr hb hc col z bz
  let m := maximumf acc.1 bm
  let up := cmpf .ogt bz acc.2.2.1
  (m, addf (mulf acc.2.1 (exp (subf acc.1 m))) (mulf (expSum hr hb hc x bm) (exp (subf bm m))),
    select up bz acc.2.2.1, select up bi acc.2.2.2.1, select up (pick hr hb hc ha hs a col bi) acc.2.2.2.2)

end Chunk

/-- The columns of trip `k`'s chunk. -/
def tripCol (k : Fin k0_t1_loop.trips) : IVec S8x2048 32 :=
  addi (iota .tc S8x2048 32 [1] iota_S8x2048_d1_w32) (broadcast S8x2048 (Scalar.muli (Scf.iv 0#32 1#32 k) 2048#32))

/-- The rows of trip `k`'s chunk. -/
def tripRow (v0 : BitVec 32) : IVec S8x2048 32 :=
  addi (iota .tc S8x2048 32 [0] iota_S8x2048_d0_w32) (broadcast S8x2048 v0)

set_option maxRecDepth 65536 in
theorem trip_eq (𝒱 : Variants) (c : Dev nD) (bd : Option 𝒱.V) (i : grid0.Coords) (arg1 : Memref sig .tc .vmem S8x100000 .f32) (harg1 : arg1.IsWhole) (arg2 : Memref sig .tc .vmem S1x100000 .i32) (harg2 : arg2.IsWhole) (arg3 : Memref sig .tc .vmem S8x1 .f32) (harg3 : arg3.IsWhole) (arg4 : Memref sig .tc .vmem S8x1 .i32) (harg4 : arg4.IsWhole) (v0 : BitVec 32) (x0 : Vec F S8x100000 .f32) (x1 : Vec F S1x100000 .i32) (k : Fin k0_t1_loop.trips) (acc : Carry F) :
    tripR_k0_t1 𝒱 c bd i arg1 harg1 arg2 harg2 arg3 harg3 arg4 harg4 v0 (harg1.unread x0) (harg2.unread x1) k acc
      = step reduces_S8x2048_S8 broadcasts_S8x1_S8x2048 shapeCasts_S8_S8x1 broadcasts_S1x2048_S8x2048 shapeCasts_S1x2048_S1x2048
        (View.ld x0 (Rect.unit (s := S8x100000) (k0_off1 k) S8x2048.size (k0_off1_inb k)))
        (View.ld x1 (Rect.unit (s := S1x100000) (k0_off2 k) S1x2048.size (k0_off2_inb k))) (tripRow v0) (tripCol k) acc := by
  unfold tripR_k0_t1 trip_k0_t1
  dsimp only
  sl_unfold_words
  simp only [View.readAt_eq_ld, harg1.read_unread, harg2.read_unread]
  sl_kernel_rfl

/-- Trip `k`'s step on the carry. -/
def tripStep (v0 : BitVec 32) (x0 : Vec F S8x100000 .f32) (x1 : Vec F S1x100000 .i32) (k : Fin k0_t1_loop.trips) (acc : Carry F) : Carry F :=
  step reduces_S8x2048_S8 broadcasts_S8x1_S8x2048 shapeCasts_S8_S8x1 broadcasts_S1x2048_S8x2048 shapeCasts_S1x2048_S1x2048
    (View.ld x0 (Rect.unit (s := S8x100000) (k0_off1 k) S8x2048.size (k0_off1_inb k)))
    (View.ld x1 (Rect.unit (s := S1x100000) (k0_off2 k) S1x2048.size (k0_off2_inb k))) (tripRow v0) (tripCol k) acc

/-- The carry before the first chunk. -/
def carry0 : Carry F :=
  (broadcast S8x1 (Scalar.ofBits .f32 0xFF800000#32), broadcast S8x1 (Scalar.ofBits .f32 0x00000000#32),
    broadcast S8x1 (Scalar.ofBits .f32 0xFF800000#32), broadcast S8x1 0#32, broadcast S8x1 0#32)

/-- The carry before trip `k`. -/
def carry (v0 : BitVec 32) (x0 : Vec F S8x100000 .f32) (x1 : Vec F S1x100000 .i32) : ℕ → Carry F
  | 0 => carry0
  | k + 1 => if h : k < k0_t1_loop.trips then tripStep v0 x0 x1 ⟨k, h⟩ (carry v0 x0 x1 k) else carry v0 x0 x1 k

theorem st_eq (𝒱 : Variants) (c : Dev nD) (bd : Option 𝒱.V) (i : grid0.Coords) (arg1 : Memref sig .tc .vmem S8x100000 .f32) (harg1 : arg1.IsWhole) (arg2 : Memref sig .tc .vmem S1x100000 .i32) (harg2 : arg2.IsWhole) (arg3 : Memref sig .tc .vmem S8x1 .f32) (harg3 : arg3.IsWhole) (arg4 : Memref sig .tc .vmem S8x1 .i32) (harg4 : arg4.IsWhole) (v0 : BitVec 32) (x0 : Vec F S8x100000 .f32) (x1 : Vec F S1x100000 .i32) :
    ∀ k : ℕ, k ≤ k0_t1_loop.trips →
      st_k0_t1 𝒱 c bd i arg1 harg1 arg2 harg2 arg3 harg3 arg4 harg4 v0 (harg1.unread x0) (harg2.unread x1) carry0 k = carry v0 x0 x1 k
  | 0, _ => st_k0_t1_zero ..
  | k + 1, h => by
    rw [st_k0_t1_succ 𝒱 c bd i arg1 harg1 arg2 harg2 arg3 harg3 arg4 harg4 v0 _ _ _ ⟨k, h⟩, trip_eq]
    rw [st_eq 𝒱 c bd i arg1 harg1 arg2 harg2 arg3 harg3 arg4 harg4 v0 x0 x1 k (Nat.le_of_succ_le h)]
    rw [carry, dif_pos (show k < k0_t1_loop.trips from h)]
    rfl

/-- The rows and columns of the first tail chunk. -/
def tailRow (v0 : BitVec 32) : IVec S8x1664 32 :=
  addi (iota .tc S8x1664 32 [0] iota_S8x1664_d0_w32) (broadcast S8x1664 v0)
def tailCol : IVec S8x1664 32 :=
  addi (iota .tc S8x1664 32 [1] iota_S8x1664_d1_w32) (broadcast S8x1664 98304#32)

/-- The rows and columns of the second tail chunk. -/
def lastRow (v0 : BitVec 32) : IVec S8x32 32 :=
  addi (iota .tc S8x32 32 [0] iota_S8x32_d0_w32) (broadcast S8x32 v0)
def lastCol : IVec S8x32 32 :=
  addi (iota .tc S8x32 32 [1] iota_S8x32_d1_w32) (broadcast S8x32 99968#32)

/-- The carry after the first tail chunk. -/
def tailCarry (v0 : BitVec 32) (x0 : Vec F S8x100000 .f32) (x1 : Vec F S1x100000 .i32) : Carry F :=
  step reduces_S8x1664_S8 broadcasts_S8x1_S8x1664 shapeCasts_S8_S8x1 broadcasts_S1x1664_S8x1664 shapeCasts_S1x1664_S1x1664
    (View.ld x0 (Rect.unit (s := S8x100000) ![0, 98304] S8x1664.size inb_S8x100000_S8x1664_0_98304))
    (View.ld x1 (Rect.unit (s := S1x100000) ![0, 98304] S1x1664.size inb_S1x100000_S1x1664_0_98304)) (tailRow v0) tailCol
    (carry v0 x0 x1 k0_t1_loop.trips)

/-- The carry after the second tail chunk, the whole row. -/
def lastCarry (v0 : BitVec 32) (x0 : Vec F S8x100000 .f32) (x1 : Vec F S1x100000 .i32) : Carry F :=
  step reduces_S8x32_S8 broadcasts_S8x1_S8x32 shapeCasts_S8_S8x1 broadcasts_S1x32_S8x32 shapeCasts_S1x32_S1x32
    (View.ld x0 (Rect.unit (s := S8x100000) ![0, 99968] S8x32.size inb_S8x100000_S8x32_0_99968))
    (View.ld x1 (Rect.unit (s := S1x100000) ![0, 99968] S1x32.size inb_S1x100000_S1x32_0_99968)) (lastRow v0) lastCol
    (tailCarry v0 x0 x1)

/-- The log-probability block written from the carry of the whole row. -/
def finish (v0 : BitVec 32) (acc : Carry F) : FVec F S8x1 .f32 :=
  subf (subf acc.2.2.1 (vnoise (vmant (addi (muli (addi (iota .tc S8x1 32 [0] iota_S8x1_d0_w32) (broadcast S8x1 v0))
    (broadcast S8x1 100000#32)) acc.2.2.2.1)))) (addf acc.1 (log acc.2.1))

theorem hz : (![0, 0] : Fin 2 → Nat) = fun _ => 0 := funext fun a => by fin_cases a <;> rfl

/-- The first row of point `i`'s block, as the kernel computes it. -/
def base (i : grid0.Coords) : BitVec 32 := Scalar.muli (BitVec.ofNat 32 (i 0).val) 8#32

set_option maxRecDepth 65536 in
theorem out_2 (c : Dev nD) (i : grid0.Coords) (arg1 : Memref sig .tc .vmem S8x100000 .f32) (harg1 : arg1.IsWhole) (arg2 : Memref sig .tc .vmem S1x100000 .i32) (harg2 : arg2.IsWhole) (arg3 : Memref sig .tc .vmem S8x1 .f32) (harg3 : arg3.IsWhole) (arg4 : Memref sig .tc .vmem S8x1 .i32) (harg4 : arg4.IsWhole) (x0 : Vec F S8x100000 .f32) (x1 : Vec F S1x100000 .i32) :
    out0_A_2 c i arg1 harg1 arg2 harg2 arg3 harg3 arg4 harg4 x0 x1 = finish (base i) (lastCarry (base i) x0 x1) := by
  unfold out0_A_2
  rw [View.read_writes_eq_canon _ _ _ (cover0_A_2 c i arg1 harg1 arg2 harg2 arg3 harg3 arg4 harg4 x0 x1)]
  unfold lastCarry tailCarry
  rw [← st_eq Variants.none c none i arg1 harg1 arg2 harg2 arg3 harg3 arg4 harg4 (base i) x0 x1 _ le_rfl]
  unfold kernelRun0_A
  dsimp only
  rw [View.canon_unit_zero hz]
  sl_unfold_words
  simp only [View.readAt_eq_ld, harg1.read_unread, harg2.read_unread]
  sl_kernel_rfl

set_option maxRecDepth 65536 in
theorem out_3 (c : Dev nD) (i : grid0.Coords) (arg1 : Memref sig .tc .vmem S8x100000 .f32) (harg1 : arg1.IsWhole) (arg2 : Memref sig .tc .vmem S1x100000 .i32) (harg2 : arg2.IsWhole) (arg3 : Memref sig .tc .vmem S8x1 .f32) (harg3 : arg3.IsWhole) (arg4 : Memref sig .tc .vmem S8x1 .i32) (harg4 : arg4.IsWhole) (x0 : Vec F S8x100000 .f32) (x1 : Vec F S1x100000 .i32) :
    out0_A_3 c i arg1 harg1 arg2 harg2 arg3 harg3 arg4 harg4 x0 x1 = (lastCarry (base i) x0 x1).2.2.2.2 := by
  unfold out0_A_3
  rw [View.read_writes_eq_canon _ _ _ (cover0_A_3 c i arg1 harg1 arg2 harg2 arg3 harg3 arg4 harg4 x0 x1)]
  unfold lastCarry tailCarry
  rw [← st_eq Variants.none c none i arg1 harg1 arg2 harg2 arg3 harg3 arg4 harg4 (base i) x0 x1 _ le_rfl]
  unfold kernelRun0_A
  dsimp only
  rw [View.canon_unit_zero hz]
  sl_unfold_words
  simp only [View.readAt_eq_ld, harg1.read_unread, harg2.read_unread]
  sl_kernel_rfl

end Cert.KernelIdeal.Value
end
-- ==== Proof.Online.lean ====
module

public import Idealize.ShloMosaic.PureOps.Ideal
public import Idealize.ShloMosaic.PureOps.Ideal.Laws
public import Mathlib.Algebra.BigOperators.Intervals
public import Mathlib.Analysis.SpecialFunctions.Exp

@[expose] public section

noncomputable section

open Idealize.ShloMosaic Finset

/-! ## One row scanned chunk by chunk, over the extended reals -/

namespace Cert.Online

theorem exp_nonneg (x : EReal) : 0 ≤ Ideal.exp x := by
  induction x with
  | bot => exact le_refl _
  | top => exact le_top
  | coe r => exact EReal.coe_nonneg.mpr (Real.exp_pos r).le

/-- The exponential of a difference, rescaled to a greater subtrahend. -/
theorem exp_sub_mul (x b m : EReal) (hxb : x ≤ b) (hbm : b ≤ m) (hm : m < ⊤) :
    Ideal.exp (x - b) * Ideal.exp (b - m) = Ideal.exp (x - m) := by
  induction x with
  | bot => rw [sub_eq_add_neg, sub_eq_add_neg ⊥ m, EReal.bot_add, EReal.bot_add]; exact zero_mul _
  | top => exact absurd (lt_of_le_of_lt (hxb.trans hbm) hm) (lt_irrefl _)
  | coe r =>
    induction b with
    | bot => exact absurd hxb (not_le.mpr (EReal.bot_lt_coe r))
    | top => exact absurd (lt_of_le_of_lt hbm hm) (lt_irrefl _)
    | coe b =>
      induction m with
      | bot => exact absurd hbm (not_le.mpr (EReal.bot_lt_coe b))
      | top => exact absurd hm (lt_irrefl _)
      | coe m =>
        show ((Real.exp (r - b) : ℝ) : EReal) * ((Real.exp (b - m) : ℝ) : EReal) = ((Real.exp (r - m) : ℝ) : EReal)
        rw [← EReal.coe_mul, ← Real.exp_add]
        congr 2; ring

/-- A sum of exponentials rescaled to a greater subtrahend. -/
theorem sum_exp_mul {ι : Type} (s : Finset ι) (x : ι → EReal) (b m : EReal) (hxb : ∀ i ∈ s, x i ≤ b) (hbm : b ≤ m)
    (hm : m < ⊤) : (∑ i ∈ s, Ideal.exp (x i - b)) * Ideal.exp (b - m) = ∑ i ∈ s, Ideal.exp (x i - m) := by
  classical
  induction s using Finset.induction_on with
  | empty => simp
  | insert a s ha ih =>
    rw [sum_insert ha, sum_insert ha,
      EReal.right_distrib_of_nonneg (exp_nonneg _) (sum_nonneg fun i _ => exp_nonneg _),
      ih fun i hi => hxb i (mem_insert_of_mem hi), exp_sub_mul _ _ _ (hxb a (mem_insert_self a s)) hbm hm]

theorem sup_range_add (f : ℕ → EReal) (N n : ℕ) :
    (range (N + n)).sup f = max ((range N).sup f) ((range n).sup fun j => f (N + j)) := by
  induction n with
  | zero => simp
  | succ n ih =>
    rw [← Nat.add_assoc, range_add_one, sup_insert, ih, range_add_one, sup_insert]
    exact sup_left_comm _ _ _

/-- The greatest of `Fin n` many values, counted by their numbers. -/
theorem sup_fin {n : ℕ} (f : Fin n → EReal) (g : ℕ → EReal) (h : ∀ j : Fin n, f j = g j) :
    (univ : Finset (Fin n)).fold max ⊥ f = (range n).sup g := by
  show (univ : Finset (Fin n)).sup f = _
  refine le_antisymm (Finset.sup_le fun j _ => h j ▸ Finset.le_sup (f := g) (mem_range.mpr j.2)) (Finset.sup_le fun j hj => ?_)
  exact h ⟨j, mem_range.mp hj⟩ ▸ Finset.le_sup (f := f) (mem_univ _)

/-- Either every value below `n` is the least one, or one is the first to reach the greatest. -/
theorem first_max (g : ℕ → EReal) (n : ℕ) :
    (range n).sup g = ⊥ ∨ ∃ j < n, g j = (range n).sup g ∧ ∀ d < j, g d < (range n).sup g := by
  classical
  by_cases h0 : (range n).sup g = ⊥
  · exact .inl h0
  have hex : ∃ j, j < n ∧ g j = (range n).sup g := by
    have hne : (range n).Nonempty := by
      rw [nonempty_iff_ne_empty]; rintro he; rw [he] at h0; exact h0 rfl
    obtain ⟨j, hj, hjs⟩ := exists_mem_eq_sup _ hne g
    exact ⟨j, mem_range.mp hj, hjs.symm⟩
  refine .inr ⟨Nat.find hex, (Nat.find_spec hex).1, (Nat.find_spec hex).2, fun d hd => ?_⟩
  have hdn : d < n := hd.trans (Nat.find_spec hex).1
  exact lt_of_le_of_ne (le_sup (f := g) (mem_range.mpr hdn)) fun he => Nat.find_min hex hd ⟨hdn, he⟩

/-- What the scan of a row holds after its first `N` columns: the greatest logit `m`, the sum `s` of the exponentials
    over it, the greatest noisy logit `zb` and, unless that is minus infinity, the first column that reaches it with
    the action there. -/
structure St (X Z : ℕ → EReal) (A : ℕ → BitVec 32) (N : ℕ) (m s zb : EReal) (ib ab : BitVec 32) : Prop where
  m_eq : m = (range N).sup X
  s_eq : s = ∑ c ∈ range N, Ideal.exp (X c - m)
  zb_eq : zb = (range N).sup Z
  pick : zb = ⊥ ∨ ∃ c < N, Z c = zb ∧ (∀ d < c, Z d < zb) ∧ ib = BitVec.ofNat 32 c ∧ ab = A c

theorem St.zero (X Z : ℕ → EReal) (A : ℕ → BitVec 32) : St X Z A 0 ⊥ 0 ⊥ 0#32 0#32 :=
  ⟨rfl, rfl, rfl, .inl rfl⟩

/-- A chunk merged into what the scan holds. -/
theorem St.merge {X Z : ℕ → EReal} {A : ℕ → BitVec 32} {N n : ℕ} {m s zb : EReal} {ib ab : BitVec 32}
    (hX : ∀ c, X c < ⊤) (h : St X Z A N m s zb ib ab) {bm bs bz : EReal} {bi ba : BitVec 32}
    (hbm : bm = (range n).sup fun j => X (N + j)) (hbs : bs = ∑ j ∈ range n, Ideal.exp (X (N + j) - bm))
    (hbz : bz = (range n).sup fun j => Z (N + j))
    (hp : bz = ⊥ ∨ ∃ j < n, Z (N + j) = bz ∧ (∀ d < j, Z (N + d) < bz) ∧ bi = BitVec.ofNat 32 (N + j) ∧ ba = A (N + j)) :
    St X Z A (N + n) (max m bm) (s * Ideal.exp (m - max m bm) + bs * Ideal.exp (bm - max m bm))
      (if zb < bz then bz else zb) (if zb < bz then bi else ib) (if zb < bz then ba else ab) := by
  have hm : max m bm = (range (N + n)).sup X := by rw [sup_range_add, h.m_eq, hbm]
  have htop : max m bm < ⊤ := by
    rw [hm, Finset.sup_lt_iff (bot_lt_top)]; exact fun c _ => hX c
  refine ⟨hm, ?_, ?_, ?_⟩
  · rw [h.s_eq, hbs, sum_exp_mul (range N) X m _ ?_ (le_max_left _ _) htop,
      sum_exp_mul (range n) (fun j => X (N + j)) bm _ ?_ (le_max_right _ _) htop, sum_range_add]
    · intro j hj; rw [hbm]; exact le_sup (f := fun j => X (N + j)) hj
    · intro c hc; rw [h.m_eq]; exact le_sup (f := X) hc
  · rw [sup_range_add, ← h.zb_eq, ← hbz]
    split
    · rename_i hlt; exact (max_eq_right hlt.le).symm
    · rename_i hlt; exact (max_eq_left (not_lt.mp hlt)).symm
  · by_cases hlt : zb < bz
    · rw [if_pos hlt, if_pos hlt, if_pos hlt]
      rcases hp with hp | ⟨j, hj, hz, hf, hbi, hba⟩
      · exact absurd (hp ▸ hlt) not_lt_bot
      · refine .inr ⟨N + j, by omega, hz, fun d hd => ?_, hbi, hba⟩
        by_cases hdN : d < N
        · exact lt_of_le_of_lt (h.zb_eq ▸ le_sup (f := Z) (mem_range.mpr hdN)) hlt
        · have := hf (d - N) (by omega)
          rwa [Nat.add_sub_cancel' (not_lt.mp hdN)] at this
    · rw [if_neg hlt, if_neg hlt, if_neg hlt]
      rcases h.pick with hp | ⟨c, hc, hz, hf, hbi, hba⟩
      · exact .inl hp
      · exact .inr ⟨c, by omega, hz, hf, hbi, hba⟩

/-- The least word of a family, signed: no greater than any member or the start, and one of them. -/
theorem fold_min_spec {ι : Type} (s : Finset ι) (g : ι → BitVec 32) (init : BitVec 32) :
    (∀ i ∈ s, (s.fold IntOp.minsi init g).toInt ≤ (g i).toInt) ∧
      (s.fold IntOp.minsi init g = init ∨ ∃ i ∈ s, s.fold IntOp.minsi init g = g i) := by
  classical
  induction s using Finset.induction_on with
  | empty => exact ⟨fun i hi => absurd hi (notMem_empty i), .inl rfl⟩
  | insert a s ha ih =>
    obtain ⟨h1, h2⟩ := ih
    rw [fold_insert ha]
    generalize s.fold IntOp.minsi init g = w at h1 h2 ⊢
    have hmin : (IntOp.minsi (g a) w).toInt = min (g a).toInt w.toInt ∧ (IntOp.minsi (g a) w = g a ∨ IntOp.minsi (g a) w = w) := by
      unfold IntOp.minsi
      simp only [BitVec.slt, decide_eq_true_eq]
      split <;> (constructor <;> first | omega | simp)
    refine ⟨fun i hi => ?_, ?_⟩
    · rcases mem_insert.mp hi with rfl | hi
      · omega
      · have := h1 i hi; omega
    · rcases hmin.2 with h | h
      · exact .inr ⟨a, mem_insert_self _ _, h⟩
      · rcases h2 with h2 | ⟨i, hi, h2⟩
        · exact .inl (h.trans h2)
        · exact .inr ⟨i, mem_insert_of_mem hi, h.trans h2⟩

/-- A column number as a signed word. -/
theorem toInt_col (c : ℕ) (h : c ≤ 100000) : (BitVec.ofNat 32 c).toInt = (c : ℤ) := by
  rw [BitVec.toInt_eq_toNat_cond, BitVec.toNat_ofNat, Nat.mod_eq_of_lt (by omega), if_pos (by omega)]

/-- A sum of words of which one alone is not zero. -/
theorem fold_one {ι : Type} [DecidableEq ι] (s : Finset ι) (k : ι) (v : BitVec 32) (g : ι → BitVec 32)
    (hg : ∀ i, g i = if i = k then v else 0#32) : s.fold IntOp.addi 0#32 g = if k ∈ s then v else 0#32 := by
  induction s using Finset.induction_on with
  | empty => rfl
  | insert a s ha ih =>
    rw [fold_insert ha, ih, hg a]
    show _ + _ = _
    by_cases hak : a = k
    · subst hak; simp [ha]
    · have : ¬ k = a := fun h => hak h.symm
      simp [hak, mem_insert, this]

/-- The first column of a chunk that reaches the chunk's greatest value, found by a minimum over column numbers, and the
    action there, found by a sum. -/
theorem chunk_pick {n o : ℕ} (ho : o + n ≤ 100000) (Z : ℕ → EReal) (A : ℕ → BitVec 32) (z : Fin n → EReal)
    (col a : Fin n → BitVec 32) (hz : ∀ j, z j = Z (o + j)) (ha : ∀ j, a j = A (o + j))
    (hcol : ∀ j, col j = BitVec.ofNat 32 (o + j)) (bz : EReal) (hbz : bz = (range n).sup fun j => Z (o + j))
    (bi ba : BitVec 32)
    (hbi : bi = univ.fold IntOp.minsi 2147483647#32 fun j => if z j = bz then col j else 100000#32)
    (hba : ba = univ.fold IntOp.addi 0#32 fun j => if col j = bi then a j else 0#32) :
    bz = ⊥ ∨ ∃ j < n, Z (o + j) = bz ∧ (∀ d < j, Z (o + d) < bz) ∧ bi = BitVec.ofNat 32 (o + j) ∧ ba = A (o + j) := by
  rcases first_max (fun j => Z (o + j)) n with h | ⟨j, hj, hzj, hf⟩
  · exact .inl (hbz.trans h)
  rw [← hbz] at hzj hf
  have key : bi = BitVec.ofNat 32 (o + j) := by
    obtain ⟨h1, h2⟩ := fold_min_spec univ (fun j => if z j = bz then col j else 100000#32) 2147483647#32
    rw [← hbi] at h1 h2
    have h3 := h1 ⟨j, hj⟩ (mem_univ _)
    rw [if_pos ((hz _).trans hzj), hcol] at h3
    have e3 := toInt_col (o + j) (by omega)
    change bi.toInt ≤ (BitVec.ofNat 32 (o + j)).toInt at h3
    rw [e3] at h3
    rcases h2 with h2 | ⟨i, -, h2⟩
    · rw [h2] at h3
      have : (2147483647#32).toInt = 2147483647 := by decide
      omega
    · by_cases hzi : z i = bz
      · have hji : j ≤ i.val := not_lt.mp fun hlt => absurd ((hz i).symm.trans hzi) (hf _ hlt).ne
        rw [if_pos hzi, hcol] at h2
        rw [h2] at h3
        have hi := i.2
        have e4 : (BitVec.ofNat 32 (o + i.val)).toInt = ((o + i.val : ℕ) : ℤ) := by
          exact toInt_col _ (by omega)
        rw [e4] at h3
        rw [h2, show i.val = j by omega]
      · rw [if_neg hzi] at h2
        rw [h2] at h3
        have : (100000#32).toInt = 100000 := by decide
        omega
  refine .inr ⟨j, hj, hzj, hf, key, ?_⟩
  rw [hba, fold_one univ ⟨j, hj⟩ (A (o + j)), if_pos (mem_univ _)]
  intro i
  rw [key, hcol, ha]
  have hi := i.2
  by_cases hij : i = ⟨j, hj⟩
  · rw [if_pos hij, hij, if_pos rfl]
  · rw [if_neg hij, if_neg]
    intro he
    apply hij
    apply Fin.ext
    have := congrArg BitVec.toNat he
    rw [BitVec.toNat_ofNat, BitVec.toNat_ofNat] at this
    show i.val = j
    omega

end Cert.Online

end
-- ==== Proof.Noise.lean ====
module

public import proofs.«01_k».proof.Proof.Words
public import Idealize.ShloMosaic.PureOps.Ideal
public import Idealize.ShloMosaic.PureOps.Ideal.Laws
public import Idealize.ShloMosaic.Lib.IdealHost
public import Mathlib.Analysis.SpecialFunctions.Log.Basic

@[expose] public section

noncomputable section

open Idealize.ShloMosaic

/-! ## The noise is a finite number -/

namespace Cert.Words

/-- The noise made of a word of a number in `[1, 2)`. -/
def noise (w : BitVec 32) : EReal :=
  0 - Ideal.log (0 - Ideal.log (Ideal.ofBits .f32 w - 1 + Ideal.ofBits .f32 0x00800000#32))

/-- 23 bits under the exponent of one. -/
theorem mant_toNat (y : BitVec 32) : (IntOp.shrui .vector y 9#32 ||| 1065353216#32).toNat = 127 * 2 ^ 23 + y.toNat / 2 ^ 9 := by
  have h : IntOp.shrui .vector y 9#32 = y >>> 9 := by
    unfold IntOp.shrui; rw [if_pos (by decide)]; rfl
  have hy := y.isLt
  rw [h, BitVec.toNat_or, BitVec.toNat_ushiftRight, Nat.shiftRight_eq_div_pow, Nat.or_comm]
  have := Nat.two_pow_add_eq_or_of_lt (i := 23) (b := y.toNat / 2 ^ 9) (by omega) 127
  rw [show (1065353216#32).toNat = 2 ^ 23 * 127 by decide, ← this]
  omega

theorem ofBits_mant (y : BitVec 32) :
    Ideal.ofBits .f32 (IntOp.shrui .vector y 9#32 ||| 1065353216#32) = ((1 + (y.toNat / 2 ^ 9 : ℕ) / 2 ^ 23 : ℝ) : EReal) := by
  have hn := mant_toNat y
  have hy := y.isLt
  generalize (IntOp.shrui .vector y 9#32 ||| 1065353216#32) = w at hn ⊢
  show Ideal.ieee 8 23 w = _
  unfold Ideal.ieee
  have e1 : (w.extractLsb' 31 1).toNat = 0 := by
    rw [BitVec.extractLsb'_toNat, hn, Nat.shiftRight_eq_div_pow]; omega
  have e2 : (w.extractLsb' 23 8).toNat = 127 := by
    rw [BitVec.extractLsb'_toNat, hn, Nat.shiftRight_eq_div_pow]; omega
  have e3 : (w.extractLsb' 0 23).toNat = y.toNat / 2 ^ 9 := by
    rw [BitVec.extractLsb'_toNat, hn, Nat.shiftRight_eq_div_pow]; omega
  have e0 : (w.extractLsb' (8 + 23) 1 == 1#1) = false := by
    rw [beq_eq_false_iff_ne]; intro h
    have := congrArg BitVec.toNat h
    rw [show (8 + 23 : ℕ) = 31 from rfl, e1] at this
    exact absurd this (by decide)
  simp only [e0, e2, e3]
  rw [if_neg (by norm_num), if_neg (by norm_num)]
  congr 1
  push_cast
  norm_num
  ring

theorem ofBits_tiny : ∃ e : ℝ, Ideal.ofBits .f32 0x00800000#32 = (e : EReal) ∧ 0 < e ∧ e < 1 / 2 ^ 23 := by
  refine ⟨2 ^ 23 * 2 ^ (-149 : ℤ), ?_, by positivity, ?_⟩
  · simp [Ideal.ofBits, Ideal.ieee]
    rw [← EReal.coe_pow]
    norm_num
  · norm_num

theorem noise_finite (x : BitVec 32) : ∃ g : ℝ, noise (mant x) = (g : EReal) := by
  obtain ⟨e, he, he0, he1⟩ := ofBits_tiny
  unfold noise mant
  rw [ofBits_mant, he]
  have hk : (word x).toNat / 2 ^ 9 ≤ 2 ^ 23 - 1 := by have := (word x).isLt; omega
  generalize (word x).toNat / 2 ^ 9 = k at hk
  have hkr : (k : ℝ) ≤ 2 ^ 23 - 1 := by
    have := (Nat.cast_le (α := ℝ)).mpr hk
    norm_num at this ⊢
    exact this
  have h1 : (((1 + (k : ℝ) / 2 ^ 23 : ℝ) : EReal) - 1 + (e : EReal)) = (((k : ℝ) / 2 ^ 23 + e : ℝ) : EReal) := by
    rw [← EReal.coe_one, ← EReal.coe_sub, ← EReal.coe_add]; congr 1; ring
  have hk0 : (0 : ℝ) ≤ k := Nat.cast_nonneg k
  have hpos : 0 < (k : ℝ) / 2 ^ 23 + e := by positivity
  have hlt : (k : ℝ) / 2 ^ 23 + e < 1 := by
    have : (k : ℝ) / 2 ^ 23 ≤ 1 - 1 / 2 ^ 23 := by rw [div_le_iff₀ (by norm_num)]; linarith
    linarith
  have hlog := Real.log_neg hpos hlt
  rw [h1]
  generalize (k : ℝ) / 2 ^ 23 + e = u at hpos hlog
  have l1 : Ideal.log (u : EReal) = ((Real.log u : ℝ) : EReal) := by
    show (if u ≤ 0 then ⊥ else ((Real.log u : ℝ) : EReal)) = _
    rw [if_neg (not_le.mpr hpos)]
  have l2 : (0 : EReal) - ((Real.log u : ℝ) : EReal) = ((-Real.log u : ℝ) : EReal) := by
    rw [← EReal.coe_zero, ← EReal.coe_sub]; congr 1; ring
  have l3 : Ideal.log ((-Real.log u : ℝ) : EReal) = ((Real.log (-Real.log u) : ℝ) : EReal) := by
    show (if -Real.log u ≤ 0 then ⊥ else ((Real.log (-Real.log u) : ℝ) : EReal)) = _
    rw [if_neg (by linarith)]
  refine ⟨-Real.log (-Real.log u), ?_⟩
  rw [l1, l2, l3, ← EReal.coe_zero, ← EReal.coe_sub]; congr 1; ring

end Cert.Words
end
-- ==== Proof.KRow.lean ====
module

public import proofs.«01_k».proof.Proof.KStep
public import proofs.«01_k».proof.Proof.Online
public import proofs.«01_k».proof.Proof.Noise
public import Idealize.ShloMosaic.Lib.Pointwise
public import Idealize.ShloMosaic.Lib.Pointwise.IndexVar

@[expose] public section

set_option maxRecDepth 16384

noncomputable section

open Idealize.ShloMosaic Idealize.ShloMosaic.TcCoe Idealize.SL.Sem

/-! ## The kernel's block, read row by row over the extended reals -/

namespace Cert.KernelIdeal.Value

open Cert.KernelIdeal Cert.KernelIdeal.Gen Cert.Words Cert.Online

/-- Minus infinity's word. -/
theorem ofBits_ninf : Ideal.ofBits .f32 0xFF800000#32 = ⊥ := by simp [Ideal.ofBits, Ideal.ieee]

/-- What the scan holds of a row `r` of the block. -/
def RowSt (X Z : ℕ → EReal) (A : ℕ → BitVec 32) (N : ℕ) (acc : Carry Ideal) (r : Fin 8) : Prop :=
  St X Z A N (acc.1 (ix2 r 0)) (acc.2.1 (ix2 r 0)) (acc.2.2.1 (ix2 r 0)) (acc.2.2.2.1 (ix2 r 0)) (acc.2.2.2.2 (ix2 r 0))

/-- A choice by a strict comparison. -/
theorem select_gt {S : Shape} {ε : Type} (b c : FVec Ideal S .f32) (u v : S.Idx → ε) (j : S.Idx) :
    select (cmpf .ogt b c) u v j = if c j < b j then u j else v j := by
  show (if BitVec.ofBool (decide (c j < b j)) = 1#1 then u j else v j) = _
  by_cases h : c j < b j
  · rw [if_pos h, decide_eq_true h]; rfl
  · rw [if_neg h, decide_eq_false h]; rfl

section Chunk
variable {n : ℕ} (hr : (⟨2, ![8, n]⟩ : Shape).Reduces [1] S8) (hb : S8x1.Broadcasts ⟨2, ![8, n]⟩)
  (hc : S8.ShapeCasts S8x1) (ha : (⟨2, ![1, n]⟩ : Shape).Broadcasts ⟨2, ![8, n]⟩)
  (hs : (⟨2, ![1, n]⟩ : Shape).ShapeCasts ⟨2, ![1, n]⟩)
  (x : FVec Ideal ⟨2, ![8, n]⟩ .f32) (a : IVec ⟨2, ![1, n]⟩ 32) (row col : IVec ⟨2, ![8, n]⟩ 32)

theorem rowMax_at (r : Fin 8) : rowMax hr hc x (ix2 r 0) = Finset.univ.fold max ⊥ fun j : Fin n => x (ix2 r j) := by
  pointwise [rowMax]
  rw [ofBits_ninf]

theorem firstCol_at (z : FVec Ideal ⟨2, ![8, n]⟩ .f32) (b : FVec Ideal S8x1 .f32) (r : Fin 8) :
    firstCol hr hb hc col z b (ix2 r 0)
      = Finset.univ.fold IntOp.minsi 2147483647#32 fun j : Fin n => if z (ix2 r j) = b (ix2 r 0) then col (ix2 r j) else 100000#32 := by
  pointwise [firstCol]

theorem pick_at (hn : n ≠ 1) (b : IVec S8x1 32) (r : Fin 8) :
    pick hr hb hc ha hs a col b (ix2 r 0)
      = Finset.univ.fold IntOp.addi 0#32 fun j : Fin n => if col (ix2 r j) = b (ix2 r 0) then a (ix2 0 j) else 0#32 := by
  pointwise [pick]
  congr 1
  funext j
  have key : ∀ k : Fin n, k = j → Scalar.select (IntOp.cmpi CmpIPredicate.eq (col (ix2 r j)) (b (ix2 r 0))) (a (ix2 0 k)) 0#32
      = if col (ix2 r j) = b (ix2 r 0) then a (ix2 0 j) else 0#32 := by
    rintro k rfl
    by_cases h : col (ix2 r k) = b (ix2 r 0)
    · rw [if_pos h, h]; simp [Scalar.select, IntOp.cmpi]
    · rw [if_neg h]; simp only [Scalar.select, IntOp.cmpi, beq_eq_false_iff_ne.mpr h]; rfl
  exact key _ (dif_neg hn)

theorem expSum_at (b : FVec Ideal S8x1 .f32) (r : Fin 8) :
    expSum hr hb hc x b (ix2 r 0) = ∑ j : Fin n, Ideal.exp (x (ix2 r j) - b (ix2 r 0)) := by
  pointwise [expSum]

theorem vnoise_at {S : Shape} (w : IVec S 32) (j : S.Idx) : vnoise (F := Ideal) w j = noise (w j) := by
  pointwise [vnoise]
  rfl

theorem noisy_at (r : Fin 8) (j : Fin n) :
    noisy x row col (ix2 r j) = x (ix2 r j) + noise (mant (row (ix2 r j) * 100000#32 + col (ix2 r j))) := by
  unfold noisy
  show x (ix2 r j) + vnoise (F := Ideal) _ _ = _
  rw [vnoise_at, vmant_at]
  rfl

/-- A chunk's step on a row. -/
theorem step_at (hn : n ≠ 1) {o : ℕ} (ho : o + n ≤ 100000) (acc : Carry Ideal) (r : Fin 8) {X : ℕ → EReal} {A : ℕ → BitVec 32}
    {R : BitVec 32} (hx : ∀ j : Fin n, x (ix2 r j) = X (o + j)) (haA : ∀ j : Fin n, a (ix2 0 j) = A (o + j))
    (hrow : ∀ j : Fin n, row (ix2 r j) = R) (hcol : ∀ j : Fin n, col (ix2 r j) = BitVec.ofNat 32 (o + j))
    (hX : ∀ c, X c < ⊤)
    (h : RowSt X (fun c => X c + noise (mant (R * 100000#32 + BitVec.ofNat 32 c))) A o acc r) :
    RowSt X (fun c => X c + noise (mant (R * 100000#32 + BitVec.ofNat 32 c))) A (o + n)
      (step hr hb hc ha hs x a row col acc) r := by
  have hz : ∀ j : Fin n, noisy x row col (ix2 r j) = X (o + j) + noise (mant (R * 100000#32 + BitVec.ofNat 32 (o + j))) := by
    intro j; rw [noisy_at, hx, hrow, hcol]
  have hbm : rowMax hr hc x (ix2 r 0) = (Finset.range n).sup fun j => X (o + j) := by
    rw [rowMax_at]; exact sup_fin _ _ hx
  have hbz : rowMax hr hc (noisy x row col) (ix2 r 0)
      = (Finset.range n).sup fun j => X (o + j) + noise (mant (R * 100000#32 + BitVec.ofNat 32 (o + j))) := by
    rw [rowMax_at]; exact sup_fin _ _ hz
  have hbs : expSum hr hb hc x (rowMax hr hc x) (ix2 r 0)
      = ∑ j ∈ Finset.range n, Ideal.exp (X (o + j) - rowMax hr hc x (ix2 r 0)) := by
    rw [expSum_at, Finset.sum_range]
    exact Finset.sum_congr rfl fun j _ => by rw [hx]
  have hp := chunk_pick ho (fun c => X c + noise (mant (R * 100000#32 + BitVec.ofNat 32 c))) A
    (fun j => noisy x row col (ix2 r j)) (fun j => col (ix2 r j)) (fun j => a (ix2 0 j)) hz haA hcol _ hbz _ _
    (firstCol_at hr hb hc col (noisy x row col) (rowMax hr hc (noisy x row col)) r)
    (pick_at hr hb hc ha hs a col hn _ r)
  have key := St.merge hX h hbm hbs hbz hp
  have e (ε : Type) (u v : S8x1.Idx → ε) :=
    select_gt (rowMax hr hc (noisy x row col)) acc.2.2.1 u v (ix2 r 0)
  rw [← e, ← e, ← e] at key
  exact key

end Chunk

/-! ### The chunks in turn -/

theorem ld_cols {n o : ℕ} (x0 : Vec Ideal S8x100000 .f32) (off : Fin 2 → ℕ) (hoff : off = ![0, o])
    (inb : ∀ a, off a + (![8, n] : Fin 2 → ℕ) a ≤ S8x100000.size a) (r : Fin 8) (j : Fin n) (h : o + j.val < 100000) :
    View.ld x0 (Rect.unit (s := S8x100000) off ![8, n] inb) (ix2 r j) = x0 (ix2 r ⟨o + j, h⟩) := by
  subst hoff
  pointwise

theorem ld_acts {n o : ℕ} (x1 : Vec Ideal S1x100000 .i32) (off : Fin 2 → ℕ) (hoff : off = ![0, o])
    (inb : ∀ a, off a + (![1, n] : Fin 2 → ℕ) a ≤ S1x100000.size a) (j : Fin n) (h : o + j.val < 100000) :
    View.ld x1 (Rect.unit (s := S1x100000) off ![1, n] inb) (ix2 0 j) = x1 (ix2 0 ⟨o + j, h⟩) := by
  subst hoff
  pointwise

theorem tripRow_at (v0 : BitVec 32) (r : Fin 8) (j : Fin 2048) : tripRow v0 (ix2 r j) = BitVec.ofNat 32 r.val + v0 := by
  pointwise [tripRow]
  rfl

theorem tripCol_at (k : Fin k0_t1_loop.trips) (r : Fin 8) (j : Fin 2048) :
    tripCol k (ix2 r j) = BitVec.ofNat 32 (2048 * k.val + j.val) := by
  pointwise [tripCol]
  show BitVec.ofNat 32 j.val + (0#32 + BitVec.ofNat 32 k.val * 1#32) * 2048#32 = _
  apply BitVec.eq_of_toNat_eq
  simp only [BitVec.toNat_add, BitVec.toNat_mul, BitVec.toNat_ofNat]
  omega

/-- A row of the block by column numbers. -/
def rowOf (x0 : Vec Ideal S8x100000 .f32) (r : Fin 8) (c : ℕ) : EReal := if h : c < 100000 then x0 (ix2 r ⟨c, h⟩) else ⊥

/-- The actions by column numbers. -/
def actOf (x1 : Vec Ideal S1x100000 .i32) (c : ℕ) : BitVec 32 := if h : c < 100000 then x1 (ix2 0 ⟨c, h⟩) else 0#32

theorem rowOf_of_lt (x0 : Vec Ideal S8x100000 .f32) (r : Fin 8) {c : ℕ} (h : c < 100000) :
    rowOf x0 r c = x0 (ix2 r ⟨c, h⟩) := dif_pos h

theorem actOf_of_lt (x1 : Vec Ideal S1x100000 .i32) {c : ℕ} (h : c < 100000) : actOf x1 c = x1 (ix2 0 ⟨c, h⟩) := dif_pos h

/-- A row's noisy logits by column numbers; `R` is the word of the row's number. -/
def noisyOf (X : ℕ → EReal) (R : BitVec 32) (c : ℕ) : EReal := X c + noise (mant (R * 100000#32 + BitVec.ofNat 32 c))

section Row
variable (v0 : BitVec 32) (x0 : Vec Ideal S8x100000 .f32) (x1 : Vec Ideal S1x100000 .i32) (r : Fin 8)
  (hX : ∀ c, rowOf x0 r c < ⊤)
include hX

theorem trip_row (k : Fin k0_t1_loop.trips) (acc : Carry Ideal)
    (h : RowSt (rowOf x0 r) (noisyOf (rowOf x0 r) (BitVec.ofNat 32 r.val + v0)) (actOf x1) (2048 * k.val) acc r) :
    RowSt (rowOf x0 r) (noisyOf (rowOf x0 r) (BitVec.ofNat 32 r.val + v0)) (actOf x1) (2048 * (k.val + 1))
      (tripStep v0 x0 x1 k acc) r := by
  have hk : k.val < 48 := k.2
  have e : 2048 * (k.val + 1) = 2048 * k.val + 2048 := by ring
  rw [e]
  refine step_at _ _ _ _ _ _ _ _ _ (by decide) (by omega) acc r (fun j => ?_) (fun j => ?_) (fun j => tripRow_at v0 r j)
    (fun j => tripCol_at k r j) hX h
  · have hj := j.2
    rw [rowOf_of_lt _ _ (show 2048 * k.val + j.val < 100000 by omega)]
    exact ld_cols x0 _ (k0_off1_eq k) _ r j _
  · have hj := j.2
    rw [actOf_of_lt _ (show 2048 * k.val + j.val < 100000 by omega)]
    exact ld_acts x1 _ (k0_off2_eq k) _ j _

theorem carry_row : ∀ k : ℕ, k ≤ k0_t1_loop.trips →
    RowSt (rowOf x0 r) (noisyOf (rowOf x0 r) (BitVec.ofNat 32 r.val + v0)) (actOf x1) (2048 * k) (carry v0 x0 x1 k) r
  | 0, _ => by
    have h := St.zero (rowOf x0 r) (noisyOf (rowOf x0 r) (BitVec.ofNat 32 r.val + v0)) (actOf x1)
    unfold RowSt carry carry0
    rw [← ofBits_ninf, ← Ideal.ofBits_zero_f32] at h
    exact h
  | k + 1, hk => by
    rw [carry, dif_pos (show k < k0_t1_loop.trips from hk)]
    exact trip_row v0 x0 x1 r hX ⟨k, hk⟩ _ (carry_row k (Nat.le_of_succ_le hk))

theorem tail_row :
    RowSt (rowOf x0 r) (noisyOf (rowOf x0 r) (BitVec.ofNat 32 r.val + v0)) (actOf x1) (98304 + 1664) (tailCarry v0 x0 x1) r := by
  refine step_at _ _ _ _ _ _ _ _ _ (by decide) (by omega) _ r (fun j => ?_) (fun j => ?_) (fun j => ?_)
    (fun j => ?_) hX (carry_row v0 x0 x1 r hX 48 (by decide))
  · have hj := j.2
    rw [rowOf_of_lt _ _ (show 98304 + j.val < 100000 by omega)]
    exact ld_cols x0 _ rfl _ r j _
  · have hj := j.2
    rw [actOf_of_lt _ (show 98304 + j.val < 100000 by omega)]
    exact ld_acts x1 _ rfl _ j _
  · pointwise [tailRow]; rfl
  · pointwise [tailCol]
    show BitVec.ofNat 32 j.val + 98304#32 = _
    rw [Nat.add_comm, BitVec.ofNat_add]

theorem last_row :
    RowSt (rowOf x0 r) (noisyOf (rowOf x0 r) (BitVec.ofNat 32 r.val + v0)) (actOf x1) 100000 (lastCarry v0 x0 x1) r := by
  refine step_at (n := 32) (o := 99968) _ _ _ _ _ _ _ _ _ (by decide) (by omega) _ r (fun j => ?_) (fun j => ?_) (fun j => ?_)
    (fun j => ?_) hX (tail_row v0 x0 x1 r hX)
  · have hj := j.2
    rw [rowOf_of_lt _ _ (show 99968 + j.val < 100000 by omega)]
    exact ld_cols x0 _ rfl _ r j _
  · have hj := j.2
    rw [actOf_of_lt _ (show 99968 + j.val < 100000 by omega)]
    exact ld_acts x1 _ rfl _ j _
  · pointwise [lastRow]; rfl
  · pointwise [lastCol]
    show BitVec.ofNat 32 j.val + 99968#32 = _
    rw [Nat.add_comm, BitVec.ofNat_add]

/-- A row of the two blocks the kernel writes: the logit at the first column with the greatest noisy logit, less the
    greatest logit and the logarithm of the sum of the exponentials over it; and the action there. -/
theorem block_row (hne : (Finset.range 100000).sup (rowOf x0 r) ≠ ⊥) :
    ∃ c < 100000, (∀ d < 100000, noisyOf (rowOf x0 r) (BitVec.ofNat 32 r.val + v0) d ≤ noisyOf (rowOf x0 r) (BitVec.ofNat 32 r.val + v0) c)
      ∧ (∀ d < c, noisyOf (rowOf x0 r) (BitVec.ofNat 32 r.val + v0) d < noisyOf (rowOf x0 r) (BitVec.ofNat 32 r.val + v0) c)
      ∧ finish v0 (lastCarry v0 x0 x1) (ix2 r 0)
          = rowOf x0 r c - ((Finset.range 100000).sup (rowOf x0 r)
            + Ideal.log (∑ d ∈ Finset.range 100000, Ideal.exp (rowOf x0 r d - (Finset.range 100000).sup (rowOf x0 r))))
      ∧ (lastCarry v0 x0 x1).2.2.2.2 (ix2 r 0) = actOf x1 c := by
  obtain ⟨hm, hs, hz, hp⟩ := last_row v0 x0 x1 r hX
  have hfin : ∀ c, ∃ g : ℝ, noisyOf (rowOf x0 r) (BitVec.ofNat 32 r.val + v0) c = rowOf x0 r c + (g : EReal) := fun c => by
    obtain ⟨g, hg⟩ := noise_finite ((BitVec.ofNat 32 r.val + v0) * 100000#32 + BitVec.ofNat 32 c)
    exact ⟨g, by unfold noisyOf; rw [hg]⟩
  rcases hp with hp | ⟨c, hc, hzc, hf, hib, hab⟩
  · exfalso
    apply hne
    rw [Finset.sup_eq_bot_iff]
    intro c hc
    have h1 : noisyOf (rowOf x0 r) (BitVec.ofNat 32 r.val + v0) c = ⊥ := by
      rw [hp] at hz
      exact (Finset.sup_eq_bot_iff _ _).mp hz.symm c hc
    obtain ⟨g, hg⟩ := hfin c
    rw [hg] at h1
    rcases EReal.add_eq_bot_iff.mp h1 with h | h
    · exact h
    · exact absurd h (EReal.coe_ne_bot g)
  · refine ⟨c, hc, fun d hd => ?_, fun d hd => hzc ▸ hf d hd, ?_, hab⟩
    · rw [hzc, hz]; exact Finset.le_sup (Finset.mem_range.mpr hd)
    · show (lastCarry v0 x0 x1).2.2.1 (ix2 r 0) - vnoise (F := Ideal) _ (ix2 r 0)
        - ((lastCarry v0 x0 x1).1 (ix2 r 0) + Ideal.log ((lastCarry v0 x0 x1).2.1 (ix2 r 0))) = _
      have e : addi (muli (addi (iota .tc S8x1 32 [0] iota_S8x1_d0_w32) (broadcast S8x1 v0)) (broadcast S8x1 100000#32))
          (lastCarry v0 x0 x1).2.2.2.1 (ix2 r 0) = (BitVec.ofNat 32 r.val + v0) * 100000#32 + BitVec.ofNat 32 c := by
        rw [← hib]; pointwise; rfl
      have hcan : noisyOf (rowOf x0 r) (BitVec.ofNat 32 r.val + v0) c
          - noise (mant ((BitVec.ofNat 32 r.val + v0) * 100000#32 + BitVec.ofNat 32 c)) = rowOf x0 r c := by
        unfold noisyOf
        obtain ⟨g, hg⟩ := noise_finite ((BitVec.ofNat 32 r.val + v0) * 100000#32 + BitVec.ofNat 32 c)
        rw [hg]
        exact EReal.add_sub_cancel_right
      rw [vnoise_at, vmant_at, e, hs, hm, ← hzc, hcan]

end Row

end Cert.KernelIdeal.Value
end
-- ==== Proof.KRun.lean ====
module

public import proofs.«01_k».proof.Proof.KRow
public import proofs.«01_k».proof.Proof.Gen.KernelIdeal.Value
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

/-! ## The kernel's two result arrays, block by block -/

namespace Cert.KernelIdeal.Value

open Cert.KernelIdeal Cert.KernelIdeal.Gen

variable (m : (ℓ : Loc nD τ sig) → Buf (Elt Ideal) ℓ)

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

/-- The row of the whole array that is row `r` of block `t`. -/
def rowIn (t : Fin cfg0.N) (r : Fin 8) : Fin 128 := ⟨8 * t.val + r.val, by have : t.val < 16 := t.2; omega⟩

theorem block0_at (c : Dev nD) (t : Fin cfg0.N) (r : Fin 8) (d : Fin 100000) (x : FVec Ideal S128x100000 .f32)
    (hx : x = m ((c.tc : Thread nD τ).loc main_arg0)) : iblk m c 0 t (ix2 r d) = x (ix2 (rowIn t r) d) := by
  subst hx
  rw [← V_main_arg0 m c]
  unfold rowIn
  blk_ext [iblk, index0]

theorem block1_at (c : Dev nD) (t : Fin cfg0.N) (d : Fin 100000) (a : IVec S100000 32)
    (ha : a = m ((c.tc : Thread nD τ).loc main_arg1)) : iblk m c 1 t (ix2 0 d) = a (ix1 d) := by
  subst ha
  blk_simp [iblk, index1]
  entry_read
  pointwise
  refine congrArg (m (c, Proc.tc.devRef main_arg1)) ?_
  blk_ext [index1]

theorem result2 (c : Dev nD) (G : FVec Ideal S128x1 .f32)
    (h : ∀ (t : Fin cfg0.N) (r : Fin 8), finish (base (grid0.coords t)) (lastCarry (base (grid0.coords t)) (iblk m c 0 t) (iblk m c 1 t)) (ix2 r 0) = G (ix2 (rowIn t r) 0)) :
    (dats m 0 c).arrAt 2 cfg0.N = G := by
  refine (dats m 0 c).arrAt_eq_of_covers 2 _ (by decide +kernel) fun t hf y => ?_
  blk_simp
  rw [after0_2]
  unfold outsAt0
  dsimp only
  rw [out_2]
  obtain ⟨r, z, rfl⟩ : ∃ (r : Fin 8) (z : Fin 1), y = ix2 r z := ⟨y 0, y 1, eq_ix2 y⟩
  obtain rfl : z = 0 := Subsingleton.elim _ _
  refine (h t r).trans ?_
  unfold rowIn
  blk_ext [index2]

theorem result3 (c : Dev nD) (G : IVec S128x1 32)
    (h : ∀ (t : Fin cfg0.N) (r : Fin 8), (lastCarry (base (grid0.coords t)) (iblk m c 0 t) (iblk m c 1 t)).2.2.2.2 (ix2 r 0) = G (ix2 (rowIn t r) 0)) :
    (dats m 0 c).arrAt 3 cfg0.N = G := by
  refine (dats m 0 c).arrAt_eq_of_covers 3 _ (by decide +kernel) fun t hf y => ?_
  blk_simp
  rw [after0_3]
  unfold outsAt0
  dsimp only
  rw [out_3]
  obtain ⟨r, z, rfl⟩ : ∃ (r : Fin 8) (z : Fin 1), y = ix2 r z := ⟨y 0, y 1, eq_ix2 y⟩
  obtain rfl : z = 0 := Subsingleton.elim _ _
  refine (h t r).trans ?_
  unfold rowIn
  blk_ext [index3]

/-- The row number the kernel computes for a row of a block. -/
theorem base_add : ∀ (t : Fin cfg0.N) (r : Fin 8), BitVec.ofNat 32 r.val + base (grid0.coords t) = BitVec.ofNat 32 (rowIn t r).val :=
  (by decide +kernel : ∀ (t : Fin grid0.N) (r : Fin 8), BitVec.ofNat 32 r.val + base (grid0.coords t) = BitVec.ofNat 32 (8 * t.val + r.val))

end Cert.KernelIdeal.Value
end
-- ==== Proof.RefWords.lean ====
module

public import proofs.«01_k».proof.Proof.RefTerms
public import proofs.«01_k».proof.Proof.Noise
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem Idealize.ShloMosaic.StableHlo

/-! ## The reference's random words, read at an element -/

namespace Cert.ReferenceIdeal.Value

open Cert.ReferenceIdeal Cert.ReferenceIdeal.Gen Cert.Words

variable {F : FTy → Type} [FloatOps F]

/-- A one-element array spread over the rows and columns. -/
abbrev spread {w : ℕ} (v : IVec S_ w) : IVec S128x100000 w := broadcastInDim S128x100000 ![] bcast_S_S128x100000 v

/-- The host's rotation of a word. -/
theorem rot_host (d e x : BitVec 32) (hd : d.toNat < 32) (he : e.toNat < 32) :
    IntOp.ori (IntOp.shli .host x d) (IntOp.shrui .host x e) = rot d e x := by
  unfold rot IntOp.shli IntOp.shrui
  rw [if_pos hd, if_pos hd, if_pos he, if_pos he]
  rfl

/-- A round as the reference writes it. -/
theorem round_at (d e : BitVec 32) (hd : d.toNat < 32) (he : e.toNat < 32) (a b : IVec S128x100000 32) (j : S128x100000.Idx) :
    (addi a b j, xori (addi a b) (ori (Host.shli b (spread (constantI S_ 32 d))) (Host.shrui b (spread (constantI S_ 32 e)))) j)
      = rnd d e (a j, b j) := by
  unfold rnd
  rw [← rot_host d e (b j) hd he, BitVec.xor_comm]
  rfl

/-- A fourth round with the addition of the keys after it, as the reference writes them. -/
theorem round_key_at (d e k l n : BitVec 32) (hd : d.toNat < 32) (he : e.toNat < 32) (a b : IVec S128x100000 32)
    (kv lv : IVec S_ 32) (hk : ∀ i, kv i = k) (hl : ∀ i, lv i = l) (j : S128x100000.Idx) :
    (addi (addi a b) (spread kv) j,
        addi (addi (xori (addi a b) (ori (Host.shli b (spread (constantI S_ 32 d))) (Host.shrui b (spread (constantI S_ 32 e)))))
          (spread lv)) (spread (constantI S_ 32 n)) j)
      = inj k (l + n) (rnd d e (a j, b j)) := by
  rw [← round_at d e hd he a b j]
  unfold inj
  refine Prod.ext ?_ ?_
  · show addi a b j + kv _ = _
    rw [hk]
  · show _ + lv _ + n = _ + (l + n)
    rw [hl, BitVec.add_assoc]

variable (V0 : Valuation τ sig (Elt F))

theorem key0 (i : S_.Idx) : (res_main_call0_v5 V0 : IVec S_ 32) i = 0#32 := by
  unfold res_main_call0_v5 res_main_v6 res_main_c
  clean_types
  pointwise
  rfl

theorem key1 (i : S_.Idx) : (res_main_call0_v7 V0 : IVec S_ 32) i = 42#32 := by
  unfold res_main_call0_v7 res_main_v6 res_main_c
  clean_types
  pointwise
  rfl

theorem key2 (i : S_.Idx) : (res_main_call0_call0_v1 V0 : IVec S_ 32) i = 466689008#32 := by
  have h0 := key0 V0 i
  have h1 := key1 V0 i
  have h : ∀ a b : BitVec 32, a = 0#32 → b = 42#32 → (a ^^^ b) ^^^ 466688986#32 = 466689008#32 := by
    rintro a b rfl rfl; decide
  exact h _ _ h0 h1

/-- The element's counter. -/
def ctr (r : Fin 128) (c : Fin 100000) : BitVec 32 := BitVec.ofNat 32 r.val * 100000#32 + BitVec.ofNat 32 c.val

section At
variable (r : Fin 128) (c : Fin 100000)

/-- A named array of words, typed plainly. -/
abbrev wd (v : IVec S128x100000 32) : IVec S128x100000 32 := v
abbrev sc (v : IVec S_ 32) : IVec S_ 32 := v

/-- The first word before the first round. -/
def highStart : IVec S128x100000 32 :=
  addi (trunci 32 (Host.shrui (res_main_call0_v14 V0) (spread (constantI S_ 64 32#64))) natLt_32_64) (spread (res_main_call0_v5 V0))

theorem start : (highStart V0 (ix2 r c), wd (res_main_call0_call0_v5 V0) (ix2 r c)) = (0#32, ctr r c + 42#32) := by
  have hr := r.2
  have hc := c.2
  have e : ∀ j : S128x100000.Idx, (res_main_call0_v14 V0 : IVec S128x100000 64) j
      = 100000#64 * BitVec.ofNat 64 (j 0).val + 1#64 * BitVec.ofNat 64 (j 1).val := fun j => rfl
  have e1 := e (ix2 r c)
  have hn : (100000#64 * BitVec.ofNat 64 r.val + 1#64 * BitVec.ofNat 64 c.val).toNat = 100000 * r.val + c.val := by
    simp only [BitVec.toNat_add, BitVec.toNat_mul, BitVec.toNat_ofNat]; omega
  have addc : ∀ (u k v k' : BitVec 32), k = k' → u = v → u + k = v + k' := by rintro u k v k' rfl rfl; rfl
  refine Prod.ext ?_ ?_
  · show (IntOp.shrui .host ((res_main_call0_v14 V0 : IVec S128x100000 64) (ix2 r c)) 32#64).setWidth 32
      + sc (res_main_call0_v5 V0) _ = 0#32
    rw [show (0#32 : BitVec 32) = 0#32 + 0#32 by decide]
    refine addc _ _ _ _ (key0 V0 _) ?_
    rw [e1]
    unfold IntOp.shrui
    rw [if_pos (by decide)]
    apply BitVec.eq_of_toNat_eq
    rw [BitVec.toNat_setWidth]
    show ((100000#64 * BitVec.ofNat 64 r.val + 1#64 * BitVec.ofNat 64 c.val) >>> (32#64 : BitVec 64)).toNat % 2 ^ 32 = 0
    rw [BitVec.ushiftRight_eq', BitVec.toNat_ushiftRight]
    show (100000#64 * BitVec.ofNat 64 r.val + 1#64 * BitVec.ofNat 64 c.val).toNat >>> 32 % 2 ^ 32 = 0
    rw [hn, Nat.shiftRight_eq_div_pow]
    rw [Nat.div_eq_of_lt (by norm_num; omega), Nat.zero_mod]
  · show ((res_main_call0_v14 V0 : IVec S128x100000 64) (ix2 r c)).setWidth 32 + sc (res_main_call0_v7 V0) _ = ctr r c + 42#32
    refine addc _ _ _ _ (key1 V0 _) ?_
    rw [e1]
    apply BitVec.eq_of_toNat_eq
    rw [BitVec.toNat_setWidth]
    show (100000#64 * BitVec.ofNat 64 r.val + 1#64 * BitVec.ofNat 64 c.val).toNat % 2 ^ 32 = _
    rw [hn]
    unfold ctr
    simp only [BitVec.toNat_add, BitVec.toNat_mul, BitVec.toNat_ofNat]
    omega

theorem rounds0 : ((addi (wd (res_main_call0_call0_v27 V0)) (spread (sc (res_main_call0_v7 V0)))) (ix2 r c), (wd (res_main_call0_call0_v39 V0)) (ix2 r c))
    = inj 42#32 466689009#32 (even (highStart V0 (ix2 r c), wd (res_main_call0_call0_v5 V0) (ix2 r c))) := by
  have h0 : (wd (res_main_call0_call0_v6 V0) (ix2 r c), wd (res_main_call0_call0_v12 V0) (ix2 r c)) = rnd 13#32 19#32 (highStart V0 (ix2 r c), wd (res_main_call0_call0_v5 V0) (ix2 r c)) :=
    round_at 13#32 19#32 (by decide) (by decide) _ _ _
  have h1 : (wd (res_main_call0_call0_v13 V0) (ix2 r c), wd (res_main_call0_call0_v19 V0) (ix2 r c)) = rnd 15#32 17#32 (wd (res_main_call0_call0_v6 V0) (ix2 r c), wd (res_main_call0_call0_v12 V0) (ix2 r c)) :=
    round_at 15#32 17#32 (by decide) (by decide) _ _ _
  have h2 : (wd (res_main_call0_call0_v20 V0) (ix2 r c), wd (res_main_call0_call0_v26 V0) (ix2 r c)) = rnd 26#32 6#32 (wd (res_main_call0_call0_v13 V0) (ix2 r c), wd (res_main_call0_call0_v19 V0) (ix2 r c)) :=
    round_at 26#32 6#32 (by decide) (by decide) _ _ _
  have h3 := round_key_at 6#32 26#32 (42#32) (466689008#32) 1#32 (by decide) (by decide) (wd (res_main_call0_call0_v20 V0)) (wd (res_main_call0_call0_v26 V0)) (sc (res_main_call0_v7 V0)) (sc (res_main_call0_call0_v1 V0)) (key1 V0) (key2 V0) (ix2 r c)
  unfold even
  rw [← h0, ← h1, ← h2]
  exact h3

theorem rounds1 : ((addi (wd (res_main_call0_call0_v61 V0)) (spread (sc (res_main_call0_call0_v1 V0)))) (ix2 r c), (wd (res_main_call0_call0_v73 V0)) (ix2 r c))
    = inj 466689008#32 2#32 (odd ((addi (wd (res_main_call0_call0_v27 V0)) (spread (sc (res_main_call0_v7 V0)))) (ix2 r c), (wd (res_main_call0_call0_v39 V0)) (ix2 r c))) := by
  have h0 : (wd (res_main_call0_call0_v40 V0) (ix2 r c), wd (res_main_call0_call0_v46 V0) (ix2 r c)) = rnd 17#32 15#32 ((addi (wd (res_main_call0_call0_v27 V0)) (spread (sc (res_main_call0_v7 V0)))) (ix2 r c), (wd (res_main_call0_call0_v39 V0)) (ix2 r c)) :=
    round_at 17#32 15#32 (by decide) (by decide) _ _ _
  have h1 : (wd (res_main_call0_call0_v47 V0) (ix2 r c), wd (res_main_call0_call0_v53 V0) (ix2 r c)) = rnd 29#32 3#32 (wd (res_main_call0_call0_v40 V0) (ix2 r c), wd (res_main_call0_call0_v46 V0) (ix2 r c)) :=
    round_at 29#32 3#32 (by decide) (by decide) _ _ _
  have h2 : (wd (res_main_call0_call0_v54 V0) (ix2 r c), wd (res_main_call0_call0_v60 V0) (ix2 r c)) = rnd 16#32 16#32 (wd (res_main_call0_call0_v47 V0) (ix2 r c), wd (res_main_call0_call0_v53 V0) (ix2 r c)) :=
    round_at 16#32 16#32 (by decide) (by decide) _ _ _
  have h3 := round_key_at 24#32 8#32 (466689008#32) (0#32) 2#32 (by decide) (by decide) (wd (res_main_call0_call0_v54 V0)) (wd (res_main_call0_call0_v60 V0)) (sc (res_main_call0_call0_v1 V0)) (sc (res_main_call0_v5 V0)) (key2 V0) (key0 V0) (ix2 r c)
  unfold odd
  rw [← h0, ← h1, ← h2]
  exact h3

theorem rounds2 : ((addi (wd (res_main_call0_call0_v95 V0)) (spread (sc (res_main_call0_v5 V0)))) (ix2 r c), (wd (res_main_call0_call0_v107 V0)) (ix2 r c))
    = inj 0#32 45#32 (even ((addi (wd (res_main_call0_call0_v61 V0)) (spread (sc (res_main_call0_call0_v1 V0)))) (ix2 r c), (wd (res_main_call0_call0_v73 V0)) (ix2 r c))) := by
  have h0 : (wd (res_main_call0_call0_v74 V0) (ix2 r c), wd (res_main_call0_call0_v80 V0) (ix2 r c)) = rnd 13#32 19#32 ((addi (wd (res_main_call0_call0_v61 V0)) (spread (sc (res_main_call0_call0_v1 V0)))) (ix2 r c), (wd (res_main_call0_call0_v73 V0)) (ix2 r c)) :=
    round_at 13#32 19#32 (by decide) (by decide) _ _ _
  have h1 : (wd (res_main_call0_call0_v81 V0) (ix2 r c), wd (res_main_call0_call0_v87 V0) (ix2 r c)) = rnd 15#32 17#32 (wd (res_main_call0_call0_v74 V0) (ix2 r c), wd (res_main_call0_call0_v80 V0) (ix2 r c)) :=
    round_at 15#32 17#32 (by decide) (by decide) _ _ _
  have h2 : (wd (res_main_call0_call0_v88 V0) (ix2 r c), wd (res_main_call0_call0_v94 V0) (ix2 r c)) = rnd 26#32 6#32 (wd (res_main_call0_call0_v81 V0) (ix2 r c), wd (res_main_call0_call0_v87 V0) (ix2 r c)) :=
    round_at 26#32 6#32 (by decide) (by decide) _ _ _
  have h3 := round_key_at 6#32 26#32 (0#32) (42#32) 3#32 (by decide) (by decide) (wd (res_main_call0_call0_v88 V0)) (wd (res_main_call0_call0_v94 V0)) (sc (res_main_call0_v5 V0)) (sc (res_main_call0_v7 V0)) (key0 V0) (key1 V0) (ix2 r c)
  unfold even
  rw [← h0, ← h1, ← h2]
  exact h3

theorem rounds3 : ((addi (wd (res_main_call0_call0_v129 V0)) (spread (sc (res_main_call0_v7 V0)))) (ix2 r c), (wd (res_main_call0_call0_v141 V0)) (ix2 r c))
    = inj 42#32 466689012#32 (odd ((addi (wd (res_main_call0_call0_v95 V0)) (spread (sc (res_main_call0_v5 V0)))) (ix2 r c), (wd (res_main_call0_call0_v107 V0)) (ix2 r c))) := by
  have h0 : (wd (res_main_call0_call0_v108 V0) (ix2 r c), wd (res_main_call0_call0_v114 V0) (ix2 r c)) = rnd 17#32 15#32 ((addi (wd (res_main_call0_call0_v95 V0)) (spread (sc (res_main_call0_v5 V0)))) (ix2 r c), (wd (res_main_call0_call0_v107 V0)) (ix2 r c)) :=
    round_at 17#32 15#32 (by decide) (by decide) _ _ _
  have h1 : (wd (res_main_call0_call0_v115 V0) (ix2 r c), wd (res_main_call0_call0_v121 V0) (ix2 r c)) = rnd 29#32 3#32 (wd (res_main_call0_call0_v108 V0) (ix2 r c), wd (res_main_call0_call0_v114 V0) (ix2 r c)) :=
    round_at 29#32 3#32 (by decide) (by decide) _ _ _
  have h2 : (wd (res_main_call0_call0_v122 V0) (ix2 r c), wd (res_main_call0_call0_v128 V0) (ix2 r c)) = rnd 16#32 16#32 (wd (res_main_call0_call0_v115 V0) (ix2 r c), wd (res_main_call0_call0_v121 V0) (ix2 r c)) :=
    round_at 16#32 16#32 (by decide) (by decide) _ _ _
  have h3 := round_key_at 24#32 8#32 (42#32) (466689008#32) 4#32 (by decide) (by decide) (wd (res_main_call0_call0_v122 V0)) (wd (res_main_call0_call0_v128 V0)) (sc (res_main_call0_v7 V0)) (sc (res_main_call0_call0_v1 V0)) (key1 V0) (key2 V0) (ix2 r c)
  unfold odd
  rw [← h0, ← h1, ← h2]
  exact h3

theorem rounds4 : ((addi (wd (res_main_call0_call0_v163 V0)) (spread (sc (res_main_call0_call0_v1 V0)))) (ix2 r c), (addi (addi (xori (wd (res_main_call0_call0_v163 V0)) (ori (Host.shli (wd (res_main_call0_call0_v162 V0)) (spread (constantI S_ 32 6#32))) (Host.shrui (wd (res_main_call0_call0_v162 V0)) (spread (constantI S_ 32 26#32))))) (spread (sc (res_main_call0_v5 V0)))) (spread (constantI S_ 32 5#32))) (ix2 r c))
    = inj 466689008#32 5#32 (even ((addi (wd (res_main_call0_call0_v129 V0)) (spread (sc (res_main_call0_v7 V0)))) (ix2 r c), (wd (res_main_call0_call0_v141 V0)) (ix2 r c))) := by
  have h0 : (wd (res_main_call0_call0_v142 V0) (ix2 r c), wd (res_main_call0_call0_v148 V0) (ix2 r c)) = rnd 13#32 19#32 ((addi (wd (res_main_call0_call0_v129 V0)) (spread (sc (res_main_call0_v7 V0)))) (ix2 r c), (wd (res_main_call0_call0_v141 V0)) (ix2 r c)) :=
    round_at 13#32 19#32 (by decide) (by decide) _ _ _
  have h1 : (wd (res_main_call0_call0_v149 V0) (ix2 r c), wd (res_main_call0_call0_v155 V0) (ix2 r c)) = rnd 15#32 17#32 (wd (res_main_call0_call0_v142 V0) (ix2 r c), wd (res_main_call0_call0_v148 V0) (ix2 r c)) :=
    round_at 15#32 17#32 (by decide) (by decide) _ _ _
  have h2 : (wd (res_main_call0_call0_v156 V0) (ix2 r c), wd (res_main_call0_call0_v162 V0) (ix2 r c)) = rnd 26#32 6#32 (wd (res_main_call0_call0_v149 V0) (ix2 r c), wd (res_main_call0_call0_v155 V0) (ix2 r c)) :=
    round_at 26#32 6#32 (by decide) (by decide) _ _ _
  have h3 := round_key_at 6#32 26#32 (466689008#32) (0#32) 5#32 (by decide) (by decide) (wd (res_main_call0_call0_v156 V0)) (wd (res_main_call0_call0_v162 V0)) (sc (res_main_call0_call0_v1 V0)) (sc (res_main_call0_v5 V0)) (key2 V0) (key0 V0) (ix2 r c)
  unfold even
  rw [← h0, ← h1, ← h2]
  exact h3

/-- The two random words at an element. -/
theorem words_at : ((addi (wd (res_main_call0_call0_v163 V0)) (spread (sc (res_main_call0_call0_v1 V0)))) (ix2 r c), (addi (addi (xori (wd (res_main_call0_call0_v163 V0)) (ori (Host.shli (wd (res_main_call0_call0_v162 V0)) (spread (constantI S_ 32 6#32))) (Host.shrui (wd (res_main_call0_call0_v162 V0)) (spread (constantI S_ 32 26#32))))) (spread (sc (res_main_call0_v5 V0)))) (spread (constantI S_ 32 5#32))) (ix2 r c)) = mix (ctr r c) := by
  unfold mix
  rw [← start V0 r c, ← rounds0, ← rounds1, ← rounds2, ← rounds3, ← rounds4]

end At
end Cert.ReferenceIdeal.Value
end
-- ==== Proof.RefNoisy.lean ====
module

public import proofs.«01_k».proof.Proof.RefWords
public import proofs.«01_k».proof.Proof.Noise

@[expose] public section

set_option maxRecDepth 16384

noncomputable section

open Idealize.ShloMosaic Idealize.ShloMosaic.TcCoe Idealize.SL.Sem Idealize.ShloMosaic.StableHlo

/-! ## The reference's noisy logits -/

namespace Cert.ReferenceIdeal.Value

open Cert.ReferenceIdeal Cert.ReferenceIdeal.Gen Cert.Words

/-- The reference's noise from its words: the uniform number is a number in `[1, 2)` less one, which is not negative. -/
theorem uniform_eq (y : BitVec 32) (w : BitVec 32) (hw : w = mant y) :
    max (Ideal.ofBits .f32 0x00000000#32) ((Ideal.ofBits .f32 w - Ideal.ofBits .f32 0x3F800000#32)
        * (Ideal.ofBits .f32 0x3F800000#32 - Ideal.ofBits .f32 0x00000000#32) + Ideal.ofBits .f32 0x00000000#32)
      = Ideal.ofBits .f32 w - 1 := by
  rw [Ideal.ofBits_zero_f32, Ideal.ofBits_one_f32, hw]
  unfold mant
  rw [ofBits_mant, sub_zero, mul_one, add_zero, ← EReal.coe_one, ← EReal.coe_sub]
  refine max_eq_right (EReal.coe_nonneg.mpr ?_)
  have : (0 : ℝ) ≤ ((word y).toNat / 2 ^ 9 : ℕ) / 2 ^ 23 := by positivity
  linarith

/-- The noisy logits from two words and the logits. -/
def gumbel {F : FTy → Type} [FloatOps F] (A B : IVec S128x100000 32) (x : FVec F S128x100000 .f32) : FVec F S128x100000 .f32 :=
  addf (Host.negf (Host.log (Host.negf (Host.log (addf (maximumf (broadcastInDim S128x100000 ![0, 1] bcast_S1x1_S128x100000_0_1 (broadcastInDim S1x1 ![] bcast_S_S1x1 (id (constant S_ .f32 0x00000000#32)))) (addf (mulf (subf (bitcastToFloat (F := F) .f32 (ori (Host.shrui (xori A B) (broadcastInDim S128x100000 ![] bcast_S_S128x100000 (constantI S_ 32 9#32))) (broadcastInDim S128x100000 ![] bcast_S_S128x100000 (constantI S_ 32 1065353216#32)))) (broadcastInDim S128x100000 ![] bcast_S_S128x100000 (constant S_ .f32 0x3F800000#32))) (broadcastInDim S128x100000 ![0, 1] bcast_S1x1_S128x100000_0_1 (subf (broadcastInDim S1x1 ![] bcast_S_S1x1 (id (constant S_ .f32 0x3F800000#32))) (broadcastInDim S1x1 ![] bcast_S_S1x1 (id (constant S_ .f32 0x00000000#32)))))) (broadcastInDim S128x100000 ![0, 1] bcast_S1x1_S128x100000_0_1 (broadcastInDim S1x1 ![] bcast_S_S1x1 (id (constant S_ .f32 0x00000000#32)))))) (broadcastInDim S128x100000 ![] bcast_S_S128x100000 (constant S_ .f32 0x00800000#32))))))) x

/-- The noisy logits at an element. -/
theorem gumbel_at (A B : IVec S128x100000 32) (x : FVec Ideal S128x100000 .f32) (r : Fin 128) (c : Fin 100000) :
    gumbel A B x (ix2 r c) = -Ideal.log (-Ideal.log (max (Ideal.ofBits .f32 0x00000000#32) ((Ideal.ofBits .f32 (IntOp.ori (IntOp.shrui .host (A (ix2 r c) ^^^ B (ix2 r c)) 9#32) 1065353216#32) - Ideal.ofBits .f32 0x3F800000#32)
        * (Ideal.ofBits .f32 0x3F800000#32 - Ideal.ofBits .f32 0x00000000#32) + Ideal.ofBits .f32 0x00000000#32)
        + Ideal.ofBits .f32 0x00800000#32)) + x (ix2 r c) := by
  pointwise [gumbel, id_eq]
  rfl

/-- The noisy logits at an element whose words are those of a counter. -/
theorem gumbel_mix (A B : IVec S128x100000 32) (x : FVec Ideal S128x100000 .f32) (r : Fin 128) (c : Fin 100000) (k : BitVec 32)
    (h : (A (ix2 r c), B (ix2 r c)) = mix k) : gumbel A B x (ix2 r c) = x (ix2 r c) + noise (mant k) := by
  rw [gumbel_at]
  generalize A (ix2 r c) = a at h ⊢
  generalize B (ix2 r c) = b at h ⊢
  have hm : IntOp.ori (IntOp.shrui .host (a ^^^ b) 9#32) 1065353216#32 = mant k := by
    unfold mant word
    rw [← h]
    unfold IntOp.shrui
    rw [if_pos (by decide), if_pos (by decide)]
    rfl
  rw [uniform_eq _ _ hm, add_comm, hm]
  unfold noise
  rw [zero_sub, zero_sub]

section
variable {F : FTy → Type} [FloatOps F] (V0 : Valuation τ sig (Elt F))

/-- The reference's noisy logits are that term. -/
theorem v14_eq : res_main_v14 V0 = gumbel (addi (wd (res_main_call0_call0_v163 V0)) (spread (sc (res_main_call0_call0_v1 V0)))) (addi (addi (xori (wd (res_main_call0_call0_v163 V0)) (ori (Host.shli (wd (res_main_call0_call0_v162 V0)) (spread (constantI S_ 32 6#32))) (Host.shrui (wd (res_main_call0_call0_v162 V0)) (spread (constantI S_ 32 26#32))))) (spread (sc (res_main_call0_v5 V0)))) (spread (constantI S_ 32 5#32))) (V0 (Proc.devRef .tc main_arg0)) := by
  unfold res_main_v14 gumbel res_main_call0_v2
  rfl

end

/-- The reference's noisy logits at an element. -/
theorem noisy_at (V0 : Valuation τ sig (Elt Ideal)) (z : FVec Ideal S128x100000 .f32) (hz : z = res_main_v14 V0)
    (x : FVec Ideal S128x100000 .f32) (hx : x = V0 (Proc.devRef .tc main_arg0)) (r : Fin 128) (c : Fin 100000) :
    z (ix2 r c) = x (ix2 r c) + noise (mant (ctr r c)) := by
  subst hx
  rw [hz, v14_eq]
  exact gumbel_mix _ _ _ r c _ (words_at V0 r c)

end Cert.ReferenceIdeal.Value
end
-- ==== Proof.RefRead.lean ====
module

public import proofs.«01_k».proof.Proof.RefTerms
public import proofs.«01_k».proof.Proof.Online
public import Idealize.ShloMosaic.Lib.Routing.OpsSearch
public import Idealize.ShloMosaic.Lib.Pointwise
public import Idealize.ShloMosaic.Lib.Pointwise.IndexBridge
public import Idealize.ShloMosaic.Lib.ReduceAll

@[expose] public section

set_option maxRecDepth 16384

noncomputable section

open Idealize.ShloMosaic Idealize.ShloMosaic.TcCoe Idealize.SL.Sem Idealize.ShloMosaic.StableHlo

/-! ## The reference's results, read row by row over the extended reals -/

namespace Cert.ReferenceIdeal.Value

open Cert.ReferenceIdeal Cert.ReferenceIdeal.Gen Cert.Online

open Finset

section
variable {F : FTy → Type} [FloatOps F]

/-- The logits less a number of their row, or less minus infinity if that is greater. -/
def shiftedBy (x : FVec F S128x100000 .f32) (t : FVec F S128 .f32) : FVec F S128x100000 .f32 :=
  subf x (broadcastInDim S128x100000 ![0, 1] bcast_S128x1_S128x100000_0_1 (broadcastInDim S128x1 ![0] bcast_S128_S128x1_0 (maximumf (broadcastInDim S128 ![] bcast_S_S128 (constant S_ .f32 0xFF800000#32)) t)))

/-- The logits less the greatest of their row. -/
def shifted (x : FVec F S128x100000 .f32) : FVec F S128x100000 .f32 :=
  shiftedBy x (Host.reduce FloatOps.maximumf x (constant S_ .f32 0xFF800000#32) reducesTo_S128x100000_S128_d1 h_S_)

/-- The log-probability of a column of each row, from the shifted logits. -/
def logprob (k : IVec S128 32) (d : FVec F S128x100000 .f32) : FVec F S128x1 .f32 :=
  shapeCast S128x1 (Host.reduceAdd (mulf (uitofp .f32 (cmpi .eq (broadcastInDim S128x100000 ![0, 1] bcast_S128x1_S128x100000_0_1 (broadcastInDim S128x1 ![0] bcast_S128_S128x1_0 k)) (broadcastInDim S128x100000 ![0, 1] bcast_S1x100000_S128x100000_0_1 (iotaInDim S1x100000 32 1)))) (subf d (broadcastInDim S128x100000 ![0, 1] bcast_S128x1_S128x100000_0_1 (Host.log (broadcastInDim S128x1 ![0] bcast_S128_S128x1_0 (Host.reduceAdd (Host.exp d) (constant S_ .f32 0x00000000#32) reducesTo_S128x100000_S128_d1 h_S_)))))) (constant S_ .f32 0x00000000#32) reducesTo_S128x100000_S128_d1 h_S_) shapeCasts_S128_S128x1

/-- The columns as the indices of a take. -/
def index (k : IVec S128 32) : IVec S128x1 32 :=
  broadcastInDim S128x1 ![0] bcast_S128_S128x1_0 (select (cmpi .slt k (broadcastInDim S128 ![] bcast_S_S128 (constantI S_ 32 0#32))) (addi k (broadcastInDim S128 ![] bcast_S_S128 (constantI S_ 32 100000#32))) k)

/-- The take of the actions at indices. -/
def taken (a : IVec S100000 32) (i : IVec S128x1 32) : IVec S128x1 32 :=
  shapeCast S128x1 (select (Host.reduce IntOp.andi (andi (cmpi .sge i (broadcastInDim S128x1 ![] bcast_S_S128x1 (constantI S_ 32 0#32))) (cmpi .sle i (broadcastInDim S128x1 ![0, 1] bcast_S1x1_S128x1_0_1 (broadcastInDim S1x1 ![1] bcast_S1_S1x1_1 (constantI S1 32 99999#32))))) (constantI S_ 1 1#1) reducesTo_S128x1_S128_d1 h_S_) (Host.gather gather_S100000_S128x1_S128_n_0_n_n_0_1_1 a i) (broadcastInDim S128 ![] bcast_S_S128 (constantI S_ 32 2147483648#32))) shapeCasts_S128_S128x1

end

/-- A row of logits by column number, minus infinity beyond its end. -/
def rowAt (x : FVec Ideal S128x100000 .f32) (r : Fin 128) (j : ℕ) : EReal :=
  if h : j < 100000 then x (ix2 r ⟨j, h⟩) else ⊥

theorem rowAt_fin (x : FVec Ideal S128x100000 .f32) (r : Fin 128) (c : Fin 100000) : rowAt x r c.val = x (ix2 r c) :=
  dif_pos c.2

theorem ofBits_low : Ideal.ofBits .f32 0xFF800000#32 = ⊥ := by
  simp [Ideal.ofBits, Ideal.ieee]

/-- The greatest logit of a row. -/
theorem top_at (x : FVec Ideal S128x100000 .f32) (r : Fin 128) :
    Host.reduce FloatOps.maximumf x (constant S_ .f32 0xFF800000#32) reducesTo_S128x100000_S128_d1 h_S_ (ix1 r) = (range 100000).sup (rowAt x r) := by
  pointwise
  rw [ofBits_low]
  exact sup_fin _ _ fun j => (rowAt_fin x r j).symm

theorem shiftedBy_at (x : FVec Ideal S128x100000 .f32) (t : FVec Ideal S128 .f32) (r : Fin 128) (c : Fin 100000) :
    shiftedBy x t (ix2 r c) = x (ix2 r c) - t (ix1 r) := by
  pointwise [shiftedBy]
  rw [ofBits_low, max_eq_right bot_le]

theorem shifted_at (x : FVec Ideal S128x100000 .f32) (r : Fin 128) (c : Fin 100000) :
    shifted x (ix2 r c) = x (ix2 r c) - (range 100000).sup (rowAt x r) := by
  unfold shifted
  rw [shiftedBy_at, top_at]

theorem logprob_at (k : IVec S128 32) (d : FVec Ideal S128x100000 .f32) (r : Fin 128) (c : Fin 100000) (hk : k (ix1 r) = BitVec.ofNat 32 c.val) :
    logprob k d (ix2 r 0) = d (ix2 r c) - Ideal.log (∑ j : Fin 100000, Ideal.exp (d (ix2 r j))) := by
  pointwise [logprob]
  rw [hk]
  generalize Ideal.log (∑ x, Ideal.exp (d (ix2 r x))) = l
  rw [Finset.sum_eq_single c]
  · rw [show IntOp.cmpi CmpIPredicate.eq (BitVec.ofNat 32 c.val) (BitVec.ofNat 32 c.val) = 1#1 by
      exact congrArg BitVec.ofBool (beq_self_eq_true _)]
    exact (congrArg (· * _) (by simp : ((1#1 : BitVec 1).toNat : EReal) = 1)).trans (one_mul _)
  · intro j _ hj
    have hne : BitVec.ofNat 32 c.val ≠ BitVec.ofNat 32 j.val := by
      intro h
      have := congrArg BitVec.toNat h
      rw [BitVec.toNat_ofNat, BitVec.toNat_ofNat, Nat.mod_eq_of_lt (by omega), Nat.mod_eq_of_lt (by omega)] at this
      exact hj (Fin.ext this.symm)
    rw [show IntOp.cmpi CmpIPredicate.eq (BitVec.ofNat 32 c.val) (BitVec.ofNat 32 j.val) = 0#1 by
      exact congrArg BitVec.ofBool (beq_eq_false_iff_ne.mpr hne)]
    exact (congrArg (· * _) (by simp : ((0#1 : BitVec 1).toNat : EReal) = 0)).trans (zero_mul _)
  · intro h
    exact absurd (Finset.mem_univ _) h

theorem index_at (k : IVec S128 32) (r : Fin 128) (c : Fin 100000) (hk : k (ix1 r) = BitVec.ofNat 32 c.val) :
    index k (ix2 r 0) = BitVec.ofNat 32 c.val := by
  pointwise [index]
  rw [hk]
  have hc := c.2
  have h0 : IntOp.cmpi CmpIPredicate.slt (BitVec.ofNat 32 c.val) 0#32 = 0#1 := by
    unfold IntOp.cmpi
    refine congrArg BitVec.ofBool (decide_eq_false ?_)
    rw [toInt_col _ hc.le]
    simp
  rw [h0]
  rfl

theorem taken_at (a : IVec S100000 32) (i : IVec S128x1 32) (r : Fin 128) (c : Fin 100000) (hi : i (ix2 r 0) = BitVec.ofNat 32 c.val) :
    taken a i (ix2 r 0) = a (ix1 c) := by
  pointwise [taken]
  have hc := c.2
  have h0 : IntOp.cmpi CmpIPredicate.sge (i (ix2 r 0)) 0#32 = 1#1 := by
    unfold IntOp.cmpi
    refine congrArg BitVec.ofBool (decide_eq_true ?_)
    rw [hi, toInt_col _ hc.le]
    simp
  have h1 : IntOp.cmpi CmpIPredicate.sle (i (ix2 r 0)) 99999#32 = 1#1 := by
    unfold IntOp.cmpi
    refine congrArg BitVec.ofBool (decide_eq_true ?_)
    rw [hi, toInt_col _ hc.le]
    have : (99999#32 : BitVec 32).toInt = 99999 := by decide
    omega
  rw [Finset.univ_unique, Finset.fold_singleton]
  rw [show (default : Fin 1) = 0 from rfl, h0, h1]
  have hg : Host.gather gather_S100000_S128x1_S128_n_0_n_n_0_1_1 a i (ix1 r) = a (ix1 c) := by
    have := Routing.take_ap gather_S100000_S128x1_S128_n_0_n_n_0_1_1 rfl rfl rfl rfl a i r hc (by omega) (by rw [← ix2_eq_valueIdx]; exact hi)
    exact this
  rw [hg]
  rfl

end Cert.ReferenceIdeal.Value
end
-- ==== Proof.Argmax.lean ====
module

public import proofs.«01_k».proof.Proof.RefTerms
public import Idealize.ShloMosaic.PureOps.Ideal.Laws
public import Idealize.ShloMosaic.Lib.Pointwise

@[expose] public section

set_option maxRecDepth 16384

noncomputable section

open Idealize.ShloMosaic Idealize.ShloMosaic.TcCoe Idealize.SL.Sem Idealize.ShloMosaic.StableHlo

/-! ## The host's argmax over the extended reals -/

namespace Cert.ReferenceIdeal.Value

open Cert.ReferenceIdeal Cert.ReferenceIdeal.Gen

/-- The choice the reference's argmax makes between two pairs of a value and a column. -/
theorem argmax_pair (a b : EReal × BitVec 32) :
    reducer_argmax_f32_i32 (F := Ideal) a b
      = if b.1 < a.1 ∨ (a.1 = b.1 ∧ a.2.toInt < b.2.toInt) then a else b := by
  obtain ⟨a1, a2⟩ := a
  obtain ⟨b1, b2⟩ := b
  have sel : ∀ {α : Type} (p q t u : BitVec 1) (x y : α),
      Scalar.select (IntOp.ori (IntOp.ori p q) (IntOp.andi t u)) x y = if p = 1#1 ∨ q = 1#1 ∨ (t = 1#1 ∧ u = 1#1) then x else y := by
    intro α p q t u x y
    have h : (IntOp.ori (IntOp.ori p q) (IntOp.andi t u) = 1#1) ↔ (p = 1#1 ∨ q = 1#1 ∨ (t = 1#1 ∧ u = 1#1)) := by
      unfold IntOp.ori IntOp.andi
      revert p q t u; decide
    exact if_congr h rfl rfl
  have sel2 : ∀ {α : Type} (p q : BitVec 1) (x y : α), Scalar.select (IntOp.ori p q) x y = if p = 1#1 ∨ q = 1#1 then x else y := by
    intro α p q x y
    have h : (IntOp.ori p q = 1#1) ↔ (p = 1#1 ∨ q = 1#1) := by
      unfold IntOp.ori
      revert p q; decide
    exact if_congr h rfl rfl
  have bit : ∀ (p : Prop) [Decidable p], (BitVec.ofBool (decide p) = 1#1) ↔ p := by
    intro p _
    by_cases h : p <;> simp [h]
  have hg : (@FloatOps.cmpf Idealize.ShloMosaic.Ideal _ .f32 CmpFPredicate.ogt a1 b1 = 1#1) ↔ b1 < a1 := bit (b1 < a1)
  have hu : ¬ (@FloatOps.cmpf Idealize.ShloMosaic.Ideal _ .f32 CmpFPredicate.une a1 a1 = 1#1) := fun h => ((bit (a1 ≠ a1)).mp h) rfl
  have he : (@FloatOps.cmpf Idealize.ShloMosaic.Ideal _ .f32 CmpFPredicate.oeq a1 b1 = 1#1) ↔ a1 = b1 := bit (a1 = b1)
  have hl : (IntOp.cmpi .slt a2 b2 = 1#1) ↔ a2.toInt < b2.toInt := bit (a2.toInt < b2.toInt)
  have e1 : (reducer_argmax_f32_i32 (F := Ideal) (a1, a2) (b1, b2)).1 = if b1 < a1 ∨ False then a1 else b1 :=
    (sel2 _ _ _ _).trans (if_congr (or_congr hg (iff_false_intro hu)) rfl rfl)
  have e2 : (reducer_argmax_f32_i32 (F := Ideal) (a1, a2) (b1, b2)).2
      = if b1 < a1 ∨ False ∨ (a1 = b1 ∧ a2.toInt < b2.toInt) then a2 else b2 :=
    (sel _ _ _ _ _ _).trans (if_congr (or_congr hg (or_congr (iff_false_intro hu) (and_congr he hl))) rfl rfl)
  generalize reducer_argmax_f32_i32 (F := Ideal) (a1, a2) (b1, b2) = w at e1 e2 ⊢
  obtain ⟨w1, w2⟩ := w
  dsimp only at e1 e2 ⊢
  rw [e1, e2]
  by_cases h1 : b1 < a1
  · rw [if_pos (.inl h1), if_pos (.inl h1), if_pos (.inl h1)]
  · rw [if_neg (by rintro (h | h); exacts [h1 h, h])]
    by_cases h2 : a1 = b1 ∧ a2.toInt < b2.toInt
    · rw [if_pos (.inr (.inr h2)), if_pos (.inr h2), h2.1]
    · rw [if_neg (by rintro (h | h | h); exacts [h1 h, h, h2 h]), if_neg (by rintro (h | h); exacts [h1 h, h2 h])]

/-- The argmax of a list of pairs: one of them or the start, and none is better. -/
theorem argmax_list (L : List (EReal × BitVec 32)) (p : EReal × BitVec 32) :
    (L.foldl (reducer_argmax_f32_i32 (F := Ideal)) p = p ∨ L.foldl (reducer_argmax_f32_i32 (F := Ideal)) p ∈ L) ∧
      ∀ q ∈ p :: L, q.1 < (L.foldl (reducer_argmax_f32_i32 (F := Ideal)) p).1 ∨
        (q.1 = (L.foldl (reducer_argmax_f32_i32 (F := Ideal)) p).1 ∧ (L.foldl (reducer_argmax_f32_i32 (F := Ideal)) p).2.toInt ≤ q.2.toInt) := by
  induction L generalizing p with
  | nil => exact ⟨.inl rfl, fun q hq => by rw [List.mem_singleton.mp hq]; exact .inr ⟨rfl, le_refl _⟩⟩
  | cons b L ih =>
    rw [List.foldl_cons, argmax_pair]
    obtain ⟨h1, h2⟩ := ih (if b.1 < p.1 ∨ (p.1 = b.1 ∧ p.2.toInt < b.2.toInt) then p else b)
    generalize L.foldl (reducer_argmax_f32_i32 (F := Ideal)) (if b.1 < p.1 ∨ (p.1 = b.1 ∧ p.2.toInt < b.2.toInt) then p else b) = w at h1 h2 ⊢
    by_cases hc : b.1 < p.1 ∨ (p.1 = b.1 ∧ p.2.toInt < b.2.toInt)
    · rw [if_pos hc] at h1 h2
      refine ⟨h1.imp id (List.mem_cons_of_mem _), fun q hq => ?_⟩
      have hp := h2 p (List.mem_cons_self)
      rcases List.mem_cons.mp hq with rfl | hq
      · exact hp
      rcases List.mem_cons.mp hq with rfl | hq
      · rcases hc with hc | ⟨hc, hi⟩ <;> rcases hp with hp | ⟨hp, hj⟩
        · exact .inl (hc.trans hp)
        · exact .inl (hp ▸ hc)
        · exact .inl (hc ▸ hp)
        · exact .inr ⟨hc ▸ hp, by omega⟩
      · exact h2 q (List.mem_cons_of_mem _ hq)
    · rw [if_neg hc] at h1 h2
      refine ⟨.inr (h1.elim (fun h => h ▸ List.mem_cons_self) (List.mem_cons_of_mem _)), fun q hq => ?_⟩
      have hb := h2 b (List.mem_cons_self)
      rcases List.mem_cons.mp hq with rfl | hq
      · have h3 : q.1 ≤ b.1 := not_lt.mp fun h => hc (.inl h)
        rcases hb with hb | ⟨hb, hj⟩
        · exact .inl (lt_of_le_of_lt h3 hb)
        · rcases h3.lt_or_eq with h3 | h3
          · exact .inl (hb ▸ h3)
          · refine .inr ⟨h3.trans hb, ?_⟩
            have : ¬ q.2.toInt < b.2.toInt := fun h => hc (.inr ⟨h3, h⟩)
            omega
      · exact h2 q hq

/-- An element's row number is what the reduction of the columns keeps. -/
theorem drop_at (r : Fin 128) (d : Fin 100000) : reducesTo_S128x100000_S128_d1.drop (ix2 r d) = ix1 r := by
  funext b
  match b with
  | ⟨0, _⟩ => exact Fin.ext rfl

/-- The pairs of a row. -/
theorem mem_row (z : FVec Ideal S128x100000 .f32) (y : IVec S128x100000 32) (r : Fin 128) (q : EReal × BitVec 32) :
    q ∈ Host.argReduceFiber z y reducesTo_S128x100000_S128_d1 (ix1 r) ↔ ∃ d : Fin 100000, q = (z (ix2 r d), y (ix2 r d)) := by
  unfold Host.argReduceFiber
  rw [List.mem_map]
  constructor
  · rintro ⟨n, hn, rfl⟩
    rw [List.mem_filter] at hn
    have hd := of_decide_eq_true hn.2
    generalize S128x100000.rowMajor.symm n = i at hd ⊢
    obtain ⟨a, d, rfl⟩ : ∃ (a : Fin 128) (d : Fin 100000), i = ix2 a d := ⟨i 0, i 1, eq_ix2 i⟩
    rw [drop_at] at hd
    have ha : a = r := congrFun hd 0
    subst ha
    exact ⟨d, rfl⟩
  · rintro ⟨d, rfl⟩
    refine ⟨S128x100000.rowMajor (ix2 r d), ?_, ?_⟩
    · rw [List.mem_filter]
      refine ⟨List.mem_finRange _, decide_eq_true ?_⟩
      rw [Equiv.symm_apply_apply, drop_at]
    · rw [Equiv.symm_apply_apply]

/-- The argmax of a row is the first column with the greatest value, where that is not minus infinity. -/
theorem argmax_row (z : FVec Ideal S128x100000 .f32) (y : IVec S128x100000 32) (zi : FVec Ideal S_ .f32) (yi : IVec S_ 32)
    (hzi : ∀ i, zi i = ⊥) (hy : ∀ r d, y (ix2 r d) = BitVec.ofNat 32 d.val) (r : Fin 128) (c : Fin 100000)
    (hmax : ∀ d : Fin 100000, z (ix2 r d) ≤ z (ix2 r c)) (hfirst : ∀ d < c, z (ix2 r d) < z (ix2 r c)) (hne : z (ix2 r c) ≠ ⊥) :
    (Host.argReduce (reducer_argmax_f32_i32 (F := Ideal)) z y zi yi reducesTo_S128x100000_S128_d1 h_S_ (ix1 r)).2
      = BitVec.ofNat 32 c.val := by
  rw [Ideal.argReduce_eq_reduce2, Host.reduce2_eq_foldl_fiber, hzi]
  have hmem := mem_row z y r
  generalize Host.argReduceFiber z y reducesTo_S128x100000_S128_d1 (ix1 r) = L at hmem ⊢
  generalize yi (Shape.Idx.first h_S_) = k0
  obtain ⟨h1, h2⟩ := argmax_list L (⊥, k0)
  have h3 := h2 (z (ix2 r c), y (ix2 r c)) (List.mem_cons_of_mem _ ((hmem _).mpr ⟨c, rfl⟩))
  generalize L.foldl (reducer_argmax_f32_i32 (F := Ideal)) (⊥, k0) = w at h1 h3 ⊢
  dsimp only at h3
  rcases h1 with h1 | h1
  · subst h1
    rcases h3 with h3 | h3
    · exact absurd h3 not_lt_bot
    · exact absurd h3.1 hne
  · obtain ⟨d, rfl⟩ := (hmem w).mp h1
    dsimp only at h3 ⊢
    rw [hy, hy] at h3
    rw [hy]
    have hdc : z (ix2 r d) = z (ix2 r c) := le_antisymm (hmax d) (h3.elim le_of_lt fun h => h.1.le)
    have hcd : c ≤ d := not_lt.mp fun h => (hfirst d h).ne hdc
    rcases h3 with h3 | ⟨-, h3⟩
    · exact absurd h3 (not_lt.mpr hdc.le)
    · have e : ∀ d : Fin 100000, (BitVec.ofNat 32 d.val).toInt = (d.val : ℤ) := fun d => by
        have := d.2
        rw [BitVec.toInt_eq_toNat_cond, BitVec.toNat_ofNat, Nat.mod_eq_of_lt (by omega), if_pos (by omega)]
      rw [e, e] at h3
      rw [show d.val = c.val from le_antisymm (by exact_mod_cast h3) hcd]

end Cert.ReferenceIdeal.Value
end
-- ==== Proof.RefResult.lean ====
module

public import proofs.«01_k».proof.Proof.RefNoisy
public import proofs.«01_k».proof.Proof.RefRead
public import proofs.«01_k».proof.Proof.Argmax
public import proofs.«01_k».proof.Proof.RefRun

@[expose] public section

set_option maxRecDepth 16384

noncomputable section

open Idealize.ShloMosaic Idealize.ShloMosaic.TcCoe Idealize.SL.Sem Idealize.ShloMosaic.StableHlo

/-! ## The reference's two results, row by row -/

namespace Cert.ReferenceIdeal.Value

open Cert.ReferenceIdeal Cert.ReferenceIdeal.Gen Cert.Words Cert.Online Finset

section
variable {F : FTy → Type} [FloatOps F] (V0 : Valuation τ sig (Elt F))

theorem shifted_eq : res_main_call3_v5 V0 = shifted (V0 (Proc.devRef .tc main_arg0)) := by
  unfold res_main_call3_v5 shifted shiftedBy
  rfl

theorem index_eq : res_main_call4_v5 V0 = index (res_main_v15 V0) := by
  unfold res_main_call4_v5 index
  rfl

theorem column_eq : res_main_v15 V0 = (fun j => (Host.argReduce reducer_argmax_f32_i32 (res_main_v14 V0) (iotaInDim S128x100000 32 1) (constant S_ .f32 0xFF800000#32) (constantI S_ 32 0#32) reducesTo_S128x100000_S128_d1 h_S_ j).2) := by
  unfold res_main_v15 res_main_call1_v0 res_main_call1_cst res_main_call1_c
  rfl

theorem result_logprob : shapeCast S128x1 (Host.reduceAdd (mulf (uitofp .f32 (cmpi .eq (broadcastInDim S128x100000 ![0, 1] bcast_S128x1_S128x100000_0_1 (broadcastInDim S128x1 ![0] bcast_S128_S128x1_0 (res_main_v15 V0))) (broadcastInDim S128x100000 ![0, 1] bcast_S1x100000_S128x100000_0_1 (iotaInDim S1x100000 32 1)))) (subf (res_main_call3_v5 V0) (broadcastInDim S128x100000 ![0, 1] bcast_S128x1_S128x100000_0_1 (Host.log (broadcastInDim S128x1 ![0] bcast_S128_S128x1_0 (Host.reduceAdd (Host.exp (res_main_call3_v5 V0)) (constant S_ .f32 0x00000000#32) reducesTo_S128x100000_S128_d1 h_S_)))))) (constant S_ .f32 0x00000000#32) reducesTo_S128x100000_S128_d1 h_S_) shapeCasts_S128_S128x1
    = logprob (res_main_v15 V0) (shifted (V0 (Proc.devRef .tc main_arg0))) := by
  rw [← shifted_eq]
  unfold logprob
  rfl

theorem result_taken : shapeCast S128x1 (select (Host.reduce IntOp.andi (andi (cmpi .sge (res_main_call4_v5 V0) (broadcastInDim S128x1 ![] bcast_S_S128x1 (constantI S_ 32 0#32))) (cmpi .sle (res_main_call4_v5 V0) (broadcastInDim S128x1 ![0, 1] bcast_S1x1_S128x1_0_1 (broadcastInDim S1x1 ![1] bcast_S1_S1x1_1 (constantI S1 32 99999#32))))) (constantI S_ 1 1#1) reducesTo_S128x1_S128_d1 h_S_) (Host.gather gather_S100000_S128x1_S128_n_0_n_n_0_1_1 (V0 (Proc.devRef .tc main_arg1)) (res_main_call4_v5 V0)) (broadcastInDim S128 ![] bcast_S_S128 (constantI S_ 32 2147483648#32))) shapeCasts_S128_S128x1
    = taken (V0 (Proc.devRef .tc main_arg1)) (index (res_main_v15 V0)) := by
  rw [← index_eq]
  unfold taken
  rfl

end

/-- The reference's run, its results as those terms. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = logprob (F := Ideal) (res_main_v15 (launchContents m c)) (shifted (m ((c.tc : Thread nD τ).loc main_arg0)))
      ∧ r.2.mem ((c.tc : Thread nD τ).loc main_v22) = taken (m ((c.tc : Thread nD τ).loc main_arg1)) (index (res_main_v15 (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_logprob (launchContents m c)), (h c).2.1.trans (result_taken (launchContents m c)), (h c).2.2.1, (h c).2.2.2⟩)
    (run (F := Ideal) m ρ)

/-- The reference's column of a row. -/
theorem column_at (V0 : Valuation τ sig (Elt Ideal)) (k : IVec S128 32) (hk : k = res_main_v15 V0)
    (x : FVec Ideal S128x100000 .f32) (hx : x = V0 (Proc.devRef .tc main_arg0)) (r : Fin 128) (c : Fin 100000)
    (hmax : ∀ d : Fin 100000, x (ix2 r d) + noise (mant (ctr r d)) ≤ x (ix2 r c) + noise (mant (ctr r c)))
    (hfirst : ∀ d < c, x (ix2 r d) + noise (mant (ctr r d)) < x (ix2 r c) + noise (mant (ctr r c)))
    (hne : x (ix2 r c) + noise (mant (ctr r c)) ≠ ⊥) : k (ix1 r) = BitVec.ofNat 32 c.val := by
  rw [column_eq] at hk
  have hz : ∀ d, (res_main_v14 V0 : FVec Ideal S128x100000 .f32) (ix2 r d) = x (ix2 r d) + noise (mant (ctr r d)) :=
    noisy_at V0 (res_main_v14 V0) rfl x hx r
  subst hk
  generalize (res_main_v14 V0 : FVec Ideal S128x100000 .f32) = z at hz ⊢
  refine argmax_row z _ _ _ (fun _ => ofBits_low) (fun _ _ => rfl) r c ?_ ?_ ?_
  · intro d; rw [hz, hz]; exact hmax d
  · intro d hd; rw [hz, hz]; exact hfirst d hd
  · rw [hz]; exact hne

/-- The log-probability the reference gives a row. -/
theorem logprob_row (k : IVec S128 32) (x : FVec Ideal S128x100000 .f32) (r : Fin 128) (c : Fin 100000)
    (hk : k (ix1 r) = BitVec.ofNat 32 c.val) :
    logprob k (shifted x) (ix2 r 0) = x (ix2 r c) - (range 100000).sup (rowAt x r)
      - Ideal.log (∑ j ∈ range 100000, Ideal.exp (rowAt x r j - (range 100000).sup (rowAt x r))) := by
  rw [logprob_at k _ r c hk, shifted_at, Finset.sum_range]
  simp only [shifted_at, rowAt_fin]

/-- The action the reference gives a row. -/
theorem taken_row (k : IVec S128 32) (a : IVec S100000 32) (r : Fin 128) (c : Fin 100000) (hk : k (ix1 r) = BitVec.ofNat 32 c.val) :
    taken a (index k) (ix2 r 0) = a (ix1 c) :=
  taken_at a _ r c (index_at k r c hk)

end Cert.ReferenceIdeal.Value
end
-- ==== Proof.Agree.lean ====
module

public import proofs.«01_k».proof.Proof.KRun
public import proofs.«01_k».proof.Proof.RefResult

@[expose] public section

set_option maxRecDepth 16384

noncomputable section

open Idealize.ShloMosaic Idealize.ShloMosaic.TcCoe Idealize.SL.Sem

/-! ## The two programs' results agree, row by row -/

namespace Cert.Proof

open Finset Cert.Words
open Cert.KernelIdeal.Value (rowOf actOf noisyOf block_row rowIn base base_add block0_at block1_at finish lastCarry)
open Cert.ReferenceIdeal.Value (rowAt rowAt_fin ctr logprob shifted taken index column_at logprob_row taken_row res_main_v15)

/-- A number less a sum of which one part is finite. -/
theorem sub_add_finite (x M L : EReal) (h1 : M ≠ ⊥) (h2 : M ≠ ⊤) : x - (M + L) = x - M - L := by
  rw [sub_eq_add_neg, EReal.neg_add (.inl h1) (.inl h2), sub_eq_add_neg (-M), sub_eq_add_neg (x - M), sub_eq_add_neg x, add_assoc]

/-- Only minus infinity plus a finite number is minus infinity. -/
theorem eq_bot_of_add (x : EReal) (g : ℝ) (h : x + (g : EReal) = ⊥) : x = ⊥ := by
  rcases EReal.add_eq_bot_iff.mp h with h | h
  · exact h
  · exact absurd h (EReal.coe_ne_bot g)

theorem rows_agree (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (x : FVec Ideal Cert.ReferenceIdeal.S128x100000 .f32) (a : IVec Cert.ReferenceIdeal.S100000 32) (k : IVec Cert.ReferenceIdeal.S128 32)
    (hx : x = m ((c.tc : Thread Cert.KernelIdeal.nD Cert.KernelIdeal.τ).loc Cert.KernelIdeal.main_arg0))
    (ha : a = m ((c.tc : Thread Cert.KernelIdeal.nD Cert.KernelIdeal.τ).loc Cert.KernelIdeal.main_arg1))
    (hV : x = V0 (Proc.devRef .tc Cert.ReferenceIdeal.main_arg0)) (hk : k = res_main_v15 V0)
    (htop : ∀ r d, x (ix2 r d) < ⊤) (hlow : ∀ r, (range 100000).sup (rowAt x r) ≠ ⊥)
    (t : Fin Cert.KernelIdeal.cfg0.N) (r : Fin 8) :
    finish (base (Cert.KernelIdeal.grid0.coords t)) (lastCarry (base (Cert.KernelIdeal.grid0.coords t)) (Cert.KernelIdeal.Gen.iblk m c 0 t) (Cert.KernelIdeal.Gen.iblk m c 1 t)) (ix2 r 0)
        = logprob k (shifted x) (ix2 (rowIn t r) 0)
    ∧ (lastCarry (base (Cert.KernelIdeal.grid0.coords t)) (Cert.KernelIdeal.Gen.iblk m c 0 t) (Cert.KernelIdeal.Gen.iblk m c 1 t)).2.2.2.2 (ix2 r 0)
        = taken a (index k) (ix2 (rowIn t r) 0) := by
  have hrow : rowOf (Cert.KernelIdeal.Gen.iblk m c 0 t) r = rowAt x (rowIn t r) := by
    funext j
    unfold rowOf rowAt
    by_cases h : j < 100000
    · rw [dif_pos h, dif_pos h]; exact block0_at m c t r ⟨j, h⟩ x hx
    · rw [dif_neg h, dif_neg h]
  have hact : ∀ j : Fin 100000, actOf (Cert.KernelIdeal.Gen.iblk m c 1 t) j.val = a (ix1 j) := fun j => by
    unfold actOf
    rw [dif_pos j.2]
    exact block1_at m c t j a ha
  have hlt : ∀ j, rowAt x (rowIn t r) j < ⊤ := fun j => by
    unfold rowAt
    by_cases h : j < 100000
    · rw [dif_pos h]; exact htop _ _
    · rw [dif_neg h]; exact bot_lt_top
  have key := block_row (base (Cert.KernelIdeal.grid0.coords t)) (Cert.KernelIdeal.Gen.iblk m c 0 t) (Cert.KernelIdeal.Gen.iblk m c 1 t) r
    (by rw [hrow]; exact hlt) (by rw [hrow]; exact hlow _)
  generalize lastCarry (base (Cert.KernelIdeal.grid0.coords t)) (Cert.KernelIdeal.Gen.iblk m c 0 t) (Cert.KernelIdeal.Gen.iblk m c 1 t) = w at key ⊢
  rw [hrow, base_add] at key
  generalize rowIn t r = R at key hlt hact ⊢
  obtain ⟨j, hj, hmax, hfirst, h1, h2⟩ := key
  have hn : ∀ d : Fin 100000, noisyOf (rowAt x R) (BitVec.ofNat 32 R.val) d.val = x (ix2 R d) + noise (mant (ctr R d)) := fun d => by
    unfold noisyOf ctr
    rw [rowAt_fin]
  have hM : (range 100000).sup (rowAt x R) ≠ ⊤ := ((Finset.sup_lt_iff bot_lt_top).mpr fun j _ => hlt j).ne
  have hmax' : ∀ d : Fin 100000, x (ix2 R d) + noise (mant (ctr R d)) ≤ x (ix2 R ⟨j, hj⟩) + noise (mant (ctr R ⟨j, hj⟩)) :=
    fun d => by rw [← hn, ← hn]; exact hmax d.val d.2
  have hcol : k (ix1 R) = BitVec.ofNat 32 j := by
    refine column_at V0 k hk x hV R ⟨j, hj⟩ hmax' (fun d hd => by rw [← hn, ← hn]; exact hfirst d.val hd) fun hb => hlow R ?_
    refine le_bot_iff.mp (Finset.sup_le fun d hd => ?_)
    have hd' := mem_range.mp hd
    rw [show d = (⟨d, hd'⟩ : Fin 100000).val from rfl, rowAt_fin]
    obtain ⟨g, hg⟩ := noise_finite (ctr R ⟨d, hd'⟩)
    have h0 := hmax' ⟨d, hd'⟩
    rw [hb, hg] at h0
    exact (eq_bot_of_add _ g (le_bot_iff.mp h0)).le
  refine ⟨?_, ?_⟩
  · rw [logprob_row k x R ⟨j, hj⟩ hcol, h1, ← sub_add_finite _ _ _ (hlow R) hM, ← rowAt_fin x R ⟨j, hj⟩]
  · rw [taken_row k a R ⟨j, hj⟩ hcol, h2]
    exact hact ⟨j, hj⟩

end Cert.Proof
end
-- ==== Proof.PreRows.lean ====
module

public import proofs.«01_k».proof.Pre_each_row_has_a_finite_greatest_logit
public import proofs.«01_k».proof.Proof.RefRead
public import Idealize.ShloMosaic.Lib.ReduceAll

@[expose] public section

set_option maxRecDepth 16384

noncomputable section

open Idealize.ShloMosaic

/-! ## What the precondition says of a row -/

namespace Cert.Pre_each_row_has_a_finite_greatest_logit

open Finset
open Cert.ReferenceIdeal.Value (rowAt rowAt_fin top_at ofBits_low)

theorem facts : Facts where
  reducesTo_S128x100000_S128_d1 := Cert.ReferenceIdeal.Gen.facts.reducesTo_S128x100000_S128_d1
  h_S_ := Cert.ReferenceIdeal.Gen.facts.h_S_
  bcast_S_S128 := Cert.ReferenceIdeal.Gen.facts.bcast_S_S128
  reducesTo_S128_S_d0 := by decide

theorem ofBits_high : Ideal.ofBits .f32 0x7F800000#32 = ⊤ := by
  simp [Ideal.ofBits, Ideal.ieee]

theorem bit_true (p : Prop) [Decidable p] (h : BitVec.ofBool (decide p) = 1#1) : p := by
  by_cases hp : p
  · exact hp
  · rw [decide_eq_false hp] at h; exact absurd h (by decide)

theorem lt_of_olt (p q : EReal) (h : @FloatOps.cmpf Idealize.ShloMosaic.Ideal _ .f32 CmpFPredicate.olt p q = 1#1) : p < q := bit_true (p < q) h

theorem lt_of_ogt (p q : EReal) (h : @FloatOps.cmpf Idealize.ShloMosaic.Ideal _ .f32 CmpFPredicate.ogt p q = 1#1) : q < p := bit_true (q < p) h

/-- The printed tests of a row's greatest logit. -/
theorem tests [Facts] (t : FVec Ideal S128 .f32) (r : Fin 128)
    (h : andi (cmpf .olt t (broadcastInDim S128 ![] Facts.bcast_S_S128 (constant S_ .f32 0x7F800000#32)))
      (cmpf .ogt t (broadcastInDim S128 ![] Facts.bcast_S_S128 (constant S_ .f32 0xFF800000#32))) (ix1 r) = 1#1) :
    t (ix1 r) < ⊤ ∧ t (ix1 r) ≠ ⊥ := by
  obtain ⟨h2, h3⟩ := IntOp.andi_eq_one.1 h
  have h4 := lt_of_olt _ _ h2
  have h5 := lt_of_ogt _ _ h3
  rw [← ofBits_high, ← ofBits_low]
  exact ⟨h4, h5.ne'⟩

/-- A row's greatest logit is finite. -/
theorem top_finite [Facts] (x : FVec Ideal S128x100000 .f32) (a : IVec S100000 32) (h : fn x a = fun _ => 1#1) (r : Fin 128) :
    (range 100000).sup (rowAt x r) < ⊤ ∧ (range 100000).sup (rowAt x r) ≠ ⊥ := by
  have h0 := congrFun h ix0
  have : Subsingleton S_.Idx := ⟨fun i j => funext fun d => d.elim0⟩
  rw [← top_at x r]
  unfold fn at h0
  dsimp only at h0
  exact tests _ r (Host.reduce_andi_all _ _ _ _ _ h0 (ix1 r))

/-- So no logit is plus infinity. -/
theorem lt_top [Facts] (x : FVec Ideal S128x100000 .f32) (a : IVec S100000 32) (h : fn x a = fun _ => 1#1) (r : Fin 128) (d : Fin 100000) :
    x (ix2 r d) < ⊤ := by
  rw [← rowAt_fin x r d]
  exact lt_of_le_of_lt (Finset.le_sup (f := rowAt x r) (mem_range.mpr d.2)) (top_finite x a h r).1

end Cert.Pre_each_row_has_a_finite_greatest_logit
end
-- ==== Proof.Algebraic.lean ====
module

public import proofs.«01_k».proof.Proof.Frames
public import proofs.«01_k».proof.Proof.Agree
public import proofs.«01_k».proof.Proof.PreRows

@[expose] public section

set_option maxRecDepth 16384

noncomputable section

open Idealize.ShloMosaic Idealize.ShloMosaic.TcCoe Idealize.SL.Sem Idealize.ShloMosaic.StableHlo

/-! ## The kernel and the reference end with equal results over the extended reals -/

namespace Cert.Proof

open Cert.ReferenceIdeal.Value (logprob shifted taken index res_main_v15 run_results)

theorem frame_i_pre : Cert.quiescent_KernelIdeal_pre_each_row_has_a_finite_greatest_logit (hKernelIdeal := Cert.KernelIdeal.Gen.facts)
    (hPre_each_row_has_a_finite_greatest_logit := Cert.Pre_each_row_has_a_finite_greatest_logit.facts) :=
  fun m ρ _ => frame_i m ρ trivial

theorem frame_r_pre : Cert.quiescent_ReferenceIdeal_pre_each_row_has_a_finite_greatest_logit (hReferenceIdeal := Cert.ReferenceIdeal.Gen.facts)
    (hPre_each_row_has_a_finite_greatest_logit := Cert.Pre_each_row_has_a_finite_greatest_logit.facts) :=
  fun m ρ _ => frame_r m ρ trivial

theorem algebraic : Cert.algebraic_KernelIdeal_ReferenceIdeal_pre_each_row_has_a_finite_greatest_logit
    (hKernelIdeal := Cert.KernelIdeal.Gen.facts) (hReferenceIdeal := Cert.ReferenceIdeal.Gen.facts)
    (hPre_each_row_has_a_finite_greatest_logit := Cert.Pre_each_row_has_a_finite_greatest_logit.facts) := by
  intro m g m' g' hpre hagree
  have := Cert.Pre_each_row_has_a_finite_greatest_logit.facts
  have hrows := fun c t r => rows_agree m c (launchContents m' c) _ _ _ (hagree c).1 (hagree c).2 rfl rfl
    (by rw [(hagree c).1]; exact Cert.Pre_each_row_has_a_finite_greatest_logit.lt_top _ _ (hpre c))
    (by rw [(hagree c).1]; exact fun r => (Cert.Pre_each_row_has_a_finite_greatest_logit.top_finite _ _ (hpre c) r).2) t r
  refine ⟨fun c => logprob (F := Ideal) (res_main_v15 (launchContents m' c)) (shifted (m' ((c.tc : Thread Cert.ReferenceIdeal.nD Cert.ReferenceIdeal.τ).loc Cert.ReferenceIdeal.main_arg0))),
    fun c => taken (m' ((c.tc : Thread Cert.ReferenceIdeal.nD Cert.ReferenceIdeal.τ).loc Cert.ReferenceIdeal.main_arg1)) (index (res_main_v15 (launchContents m' c))), ?_, run_results m' g'⟩
  refine (θ_run Cert.KernelIdeal.defs _ _).mono (fun r h c => ⟨(h c).1.trans ?_, (h c).2.1.trans ?_, (h c).2.2⟩)
    (Cert.KernelIdeal.Value.run_blocks (F := Ideal) m g)
  · exact Cert.KernelIdeal.Value.result2 m c _ fun t r => (hrows c t r).1
  · exact Cert.KernelIdeal.Value.result3 m c _ fun t r => (hrows c t r).2

end Cert.Proof
end
-- ==== Proof.lean ====
/- The proof of the claims: the three frames, the idealization, the equality of the results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_each_row_has_a_finite_greatest_logit.facts, frame_k, frame_i, frame_i_pre, frame_r, frame_r_pre, trivial, algebraic⟩

end Cert.Proof

end
